-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨4, ![4, 1024, 8, 64]⟩ ⟨4, ![4, 1024, 32, 64]⟩ (Layout.meshBlock [2, 4, 4] ![[], [], [1], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![512, 2048]⟩ ⟨2, ![2048, 2048]⟩ (Layout.meshBlock [2, 4, 4] ![[1], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = Layout.blockN ⟨3, ![4, 256, 2048]⟩ ⟨3, ![4, 1024, 2048]⟩ (Layout.meshBlock [2, 4, 4] ![[], [1], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x1024x8x64 : Shape := ⟨4, ![4, 1024, 8, 64]⟩
abbrev S512x2048 : Shape := ⟨2, ![512, 2048]⟩
abbrev S4x1024x512 : Shape := ⟨3, ![4, 1024, 512]⟩
abbrev S4x256x2048 : Shape := ⟨3, ![4, 256, 2048]⟩
abbrev S2x1024x2048 : Shape := ⟨3, ![2, 1024, 2048]⟩
abbrev S1024x2048 : Shape := ⟨2, ![1024, 2048]⟩
abbrev S2x4 : Shape := ⟨2, ![2, 4]⟩
abbrev S4 : Shape := ⟨1, ![4]⟩
abbrev S_ : Shape := ⟨0, ![]⟩
abbrev S1x256x512 : Shape := ⟨3, ![1, 256, 512]⟩
abbrev S256x512 : Shape := ⟨2, ![256, 512]⟩
abbrev S256x2048 : Shape := ⟨2, ![256, 2048]⟩
abbrev S1x1 : Shape := ⟨2, ![1, 1]⟩
abbrev S1x256x2048 : Shape := ⟨3, ![1, 256, 2048]⟩
abbrev S1 : Shape := ⟨1, ![1]⟩

abbrev nBuf : Space → Nat
  | .hbm => 4
  | .vmem => 5
  | .smem => 0
  | _ => 0

abbrev bufTy : (tb : Table) → Fin (tcTables nBuf tb) → BufTy
  | .hbm, ⟨0, _⟩ => ⟨S4x1024x8x64, .f32⟩
  | .hbm, ⟨1, _⟩ => ⟨S512x2048, .f32⟩
  | .hbm, ⟨2, _⟩ => ⟨S4x1024x512, .f32⟩
  | .hbm, ⟨3, _⟩ => ⟨S4x256x2048, .f32⟩
  | .local _ .vmem, ⟨0, _⟩ => ⟨S4x1024x512, .f32⟩
  | .local _ .vmem, ⟨1, _⟩ => ⟨S512x2048, .f32⟩
  | .local _ .vmem, ⟨2, _⟩ => ⟨S4x256x2048, .f32⟩
  | .local _ .vmem, ⟨3, _⟩ => ⟨S2x1024x2048, .f32⟩
  | .local _ .vmem, ⟨4, _⟩ => ⟨S1024x2048, .f32⟩
  | _, _ => ⟨S4x1024x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 5 → Bool
  | ⟨0, _⟩ => true
  | ⟨1, _⟩ => true
  | ⟨2, _⟩ => true
  | ⟨3, _⟩ => true
  | ⟨4, _⟩ => false
  | _ => false

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  (ofTc nBuf bufTy 5 19 bufScoped semScoped dmaSemScoped tileCredit tileCredit_eq_zero tileCredit_pos).withBarriers [(0, 4)]

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 4

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_8 : BitVec 32 := 16#32
  let v15 : BitVec 32 := Scalar.muli v2 c16_i32_8
  let v16 : BitVec 32 := Scalar.addi c0_i32 v15
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_4 : BitVec 32 := 4#32
  let v11 : BitVec 32 := Scalar.addi v5 c4_i32_4
  let c1_i32_5 : BitVec 32 := 1#32
  let v12 : BitVec 32 := Scalar.subi v11 c1_i32_5
  let c4_i32_6 : BitVec 32 := 4#32
  let v13 : BitVec 32 := Scalar.remsi v12 c4_i32_6
  let c4_i32_9 : BitVec 32 := 4#32
  let v17 : BitVec 32 := Scalar.muli v13 c4_i32_9
  let v18 : BitVec 32 := Scalar.addi v16 v17
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_10 : BitVec 32 := 1#32
  let v19 : BitVec 32 := Scalar.muli v8 c1_i32_10
  let v20 : BitVec 32 := Scalar.addi v18 v19
  v20.toNat
def k0_dev2 (d0 : Dev nD) : Nat :=
  let c0_i32_13 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_12 : BitVec 32 := 16#32
  let v21 : BitVec 32 := Scalar.muli v2 c16_i32_12
  let v22 : BitVec 32 := Scalar.addi c0_i32_13 v21
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c4_i32_3 : BitVec 32 := 4#32
  let v10 : BitVec 32 := Scalar.remsi v9 c4_i32_3
  let c4_i32_14 : BitVec 32 := 4#32
  let v23 : BitVec 32 := Scalar.muli v10 c4_i32_14
  let v24 : BitVec 32 := Scalar.addi v22 v23
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_15 : BitVec 32 := 1#32
  let v25 : BitVec 32 := Scalar.muli v8 c1_i32_15
  let v26 : BitVec 32 := Scalar.addi v24 v25
  v26.toNat
def k0_off1 (d0 : Dev nD) : Fin 3 → Nat :=
  let c0 : Index := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_17 : BitVec 32 := 4#32
  let v27 : BitVec 32 := Scalar.addi v5 c4_i32_17
  let c1_i32_18 : BitVec 32 := 1#32
  let v28 : BitVec 32 := Scalar.subi v27 c1_i32_18
  let c4_i32_19 : BitVec 32 := 4#32
  let v29 : BitVec 32 := Scalar.remsi v28 c4_i32_19
  let c256_i32 : BitVec 32 := 256#32
  let v30 : BitVec 32 := Scalar.muli v29 c256_i32
  let v31 : Index := Scalar.indexCast v30
  let c0_20 : Index := 0#32
  ![0, v31.toNat, 0]
def k0_dev3 (d0 : Dev nD) : Nat :=
  let c0_i32_31 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_30 : BitVec 32 := 16#32
  let v41 : BitVec 32 := Scalar.muli v2 c16_i32_30
  let v42 : BitVec 32 := Scalar.addi c0_i32_31 v41
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c4_i32_3 : BitVec 32 := 4#32
  let v10 : BitVec 32 := Scalar.remsi v9 c4_i32_3
  let c4_i32_32 : BitVec 32 := 4#32
  let v43 : BitVec 32 := Scalar.muli v10 c4_i32_32
  let v44 : BitVec 32 := Scalar.addi v42 v43
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_33 : BitVec 32 := 1#32
  let v45 : BitVec 32 := Scalar.muli v8 c1_i32_33
  let v46 : BitVec 32 := Scalar.addi v44 v45
  v46.toNat
def k0_off2 (d0 : Dev nD) : Fin 3 → Nat :=
  let c1 : Index := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_17 : BitVec 32 := 4#32
  let v27 : BitVec 32 := Scalar.addi v5 c4_i32_17
  let c1_i32_18 : BitVec 32 := 1#32
  let v28 : BitVec 32 := Scalar.subi v27 c1_i32_18
  let c4_i32_19 : BitVec 32 := 4#32
  let v29 : BitVec 32 := Scalar.remsi v28 c4_i32_19
  let c256_i32_38 : BitVec 32 := 256#32
  let v54 : BitVec 32 := Scalar.muli v29 c256_i32_38
  let v55 : Index := Scalar.indexCast v54
  let c0_39 : Index := 0#32
  ![1, v55.toNat, 0]
def k0_dev4 (d0 : Dev nD) : Nat :=
  let c0_i32_50 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_49 : BitVec 32 := 16#32
  let v65 : BitVec 32 := Scalar.muli v2 c16_i32_49
  let v66 : BitVec 32 := Scalar.addi c0_i32_50 v65
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c4_i32_3 : BitVec 32 := 4#32
  let v10 : BitVec 32 := Scalar.remsi v9 c4_i32_3
  let c4_i32_51 : BitVec 32 := 4#32
  let v67 : BitVec 32 := Scalar.muli v10 c4_i32_51
  let v68 : BitVec 32 := Scalar.addi v66 v67
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_52 : BitVec 32 := 1#32
  let v69 : BitVec 32 := Scalar.muli v8 c1_i32_52
  let v70 : BitVec 32 := Scalar.addi v68 v69
  v70.toNat
def k0_off3 (d0 : Dev nD) : Fin 3 → Nat :=
  let c2 : Index := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_17 : BitVec 32 := 4#32
  let v27 : BitVec 32 := Scalar.addi v5 c4_i32_17
  let c1_i32_18 : BitVec 32 := 1#32
  let v28 : BitVec 32 := Scalar.subi v27 c1_i32_18
  let c4_i32_19 : BitVec 32 := 4#32
  let v29 : BitVec 32 := Scalar.remsi v28 c4_i32_19
  let c256_i32_57 : BitVec 32 := 256#32
  let v78 : BitVec 32 := Scalar.muli v29 c256_i32_57
  let v79 : Index := Scalar.indexCast v78
  let c0_58 : Index := 0#32
  ![2, v79.toNat, 0]
def k0_dev5 (d0 : Dev nD) : Nat :=
  let c0_i32_69 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_68 : BitVec 32 := 16#32
  let v89 : BitVec 32 := Scalar.muli v2 c16_i32_68
  let v90 : BitVec 32 := Scalar.addi c0_i32_69 v89
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c4_i32_3 : BitVec 32 := 4#32
  let v10 : BitVec 32 := Scalar.remsi v9 c4_i32_3
  let c4_i32_70 : BitVec 32 := 4#32
  let v91 : BitVec 32 := Scalar.muli v10 c4_i32_70
  let v92 : BitVec 32 := Scalar.addi v90 v91
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_71 : BitVec 32 := 1#32
  let v93 : BitVec 32 := Scalar.muli v8 c1_i32_71
  let v94 : BitVec 32 := Scalar.addi v92 v93
  v94.toNat
def k0_off4 (d0 : Dev nD) : Fin 3 → Nat :=
  let c3 : Index := 3#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_17 : BitVec 32 := 4#32
  let v27 : BitVec 32 := Scalar.addi v5 c4_i32_17
  let c1_i32_18 : BitVec 32 := 1#32
  let v28 : BitVec 32 := Scalar.subi v27 c1_i32_18
  let c4_i32_19 : BitVec 32 := 4#32
  let v29 : BitVec 32 := Scalar.remsi v28 c4_i32_19
  let c256_i32_75 : BitVec 32 := 256#32
  let v102 : BitVec 32 := Scalar.muli v29 c256_i32_75
  let v103 : Index := Scalar.indexCast v102
  let c0_76 : Index := 0#32
  ![3, v103.toNat, 0]
def k0_dev6 (d0 : Dev nD) : Nat :=
  let c0_i32_86 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_85 : BitVec 32 := 16#32
  let v113 : BitVec 32 := Scalar.muli v2 c16_i32_85
  let v114 : BitVec 32 := Scalar.addi c0_i32_86 v113
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c4_i32_3 : BitVec 32 := 4#32
  let v10 : BitVec 32 := Scalar.remsi v9 c4_i32_3
  let c4_i32_87 : BitVec 32 := 4#32
  let v115 : BitVec 32 := Scalar.muli v10 c4_i32_87
  let v116 : BitVec 32 := Scalar.addi v114 v115
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_88 : BitVec 32 := 1#32
  let v117 : BitVec 32 := Scalar.muli v8 c1_i32_88
  let v118 : BitVec 32 := Scalar.addi v116 v117
  v118.toNat
def k0_off5 (d0 : Dev nD) (c0_i32_93 : BitVec 32) : Fin 3 → Nat :=
  let c0_119 : Index := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c8_i32 : BitVec 32 := 8#32
  let v126 : BitVec 32 := Scalar.addi v5 c8_i32
  let c2_i32_92 : BitVec 32 := 2#32
  let v127 : BitVec 32 := Scalar.subi v126 c2_i32_92
  let v128 : BitVec 32 := Scalar.subi v127 c0_i32_93
  let c4_i32_94 : BitVec 32 := 4#32
  let v129 : BitVec 32 := Scalar.remsi v128 c4_i32_94
  let c256_i32_118 : BitVec 32 := 256#32
  let v146 : BitVec 32 := Scalar.muli v129 c256_i32_118
  let v147 : Index := Scalar.indexCast v146
  let c0_120 : Index := 0#32
  ![0, v147.toNat, 0]
def k0_dev7 (d0 : Dev nD) : Nat :=
  let c0_i32_132 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_131 : BitVec 32 := 16#32
  let v162 : BitVec 32 := Scalar.muli v2 c16_i32_131
  let v163 : BitVec 32 := Scalar.addi c0_i32_132 v162
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_4 : BitVec 32 := 4#32
  let v11 : BitVec 32 := Scalar.addi v5 c4_i32_4
  let c1_i32_5 : BitVec 32 := 1#32
  let v12 : BitVec 32 := Scalar.subi v11 c1_i32_5
  let c4_i32_6 : BitVec 32 := 4#32
  let v13 : BitVec 32 := Scalar.remsi v12 c4_i32_6
  let c4_i32_133 : BitVec 32 := 4#32
  let v164 : BitVec 32 := Scalar.muli v13 c4_i32_133
  let v165 : BitVec 32 := Scalar.addi v163 v164
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_134 : BitVec 32 := 1#32
  let v166 : BitVec 32 := Scalar.muli v8 c1_i32_134
  let v167 : BitVec 32 := Scalar.addi v165 v166
  v167.toNat
def k0_dev8 (d0 : Dev nD) : Nat :=
  let c0_i32_141 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_140 : BitVec 32 := 16#32
  let v168 : BitVec 32 := Scalar.muli v2 c16_i32_140
  let v169 : BitVec 32 := Scalar.addi c0_i32_141 v168
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c4_i32_3 : BitVec 32 := 4#32
  let v10 : BitVec 32 := Scalar.remsi v9 c4_i32_3
  let c4_i32_142 : BitVec 32 := 4#32
  let v170 : BitVec 32 := Scalar.muli v10 c4_i32_142
  let v171 : BitVec 32 := Scalar.addi v169 v170
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_143 : BitVec 32 := 1#32
  let v172 : BitVec 32 := Scalar.muli v8 c1_i32_143
  let v173 : BitVec 32 := Scalar.addi v171 v172
  v173.toNat
def k0_off6 (d0 : Dev nD) (c0_i32_93 : BitVec 32) : Fin 3 → Nat :=
  let c1_172 : Index := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c8_i32 : BitVec 32 := 8#32
  let v126 : BitVec 32 := Scalar.addi v5 c8_i32
  let c2_i32_92 : BitVec 32 := 2#32
  let v127 : BitVec 32 := Scalar.subi v126 c2_i32_92
  let v128 : BitVec 32 := Scalar.subi v127 c0_i32_93
  let c4_i32_94 : BitVec 32 := 4#32
  let v129 : BitVec 32 := Scalar.remsi v128 c4_i32_94
  let c256_i32_171 : BitVec 32 := 256#32
  let v197 : BitVec 32 := Scalar.muli v129 c256_i32_171
  let v198 : Index := Scalar.indexCast v197
  let c0_173 : Index := 0#32
  ![1, v198.toNat, 0]
def k0_dev9 (d0 : Dev nD) : Nat :=
  let c0_i32_185 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_184 : BitVec 32 := 16#32
  let v213 : BitVec 32 := Scalar.muli v2 c16_i32_184
  let v214 : BitVec 32 := Scalar.addi c0_i32_185 v213
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_4 : BitVec 32 := 4#32
  let v11 : BitVec 32 := Scalar.addi v5 c4_i32_4
  let c1_i32_5 : BitVec 32 := 1#32
  let v12 : BitVec 32 := Scalar.subi v11 c1_i32_5
  let c4_i32_6 : BitVec 32 := 4#32
  let v13 : BitVec 32 := Scalar.remsi v12 c4_i32_6
  let c4_i32_186 : BitVec 32 := 4#32
  let v215 : BitVec 32 := Scalar.muli v13 c4_i32_186
  let v216 : BitVec 32 := Scalar.addi v214 v215
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_187 : BitVec 32 := 1#32
  let v217 : BitVec 32 := Scalar.muli v8 c1_i32_187
  let v218 : BitVec 32 := Scalar.addi v216 v217
  v218.toNat
def k0_dev10 (d0 : Dev nD) : Nat :=
  let c0_i32_194 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_193 : BitVec 32 := 16#32
  let v219 : BitVec 32 := Scalar.muli v2 c16_i32_193
  let v220 : BitVec 32 := Scalar.addi c0_i32_194 v219
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c4_i32_3 : BitVec 32 := 4#32
  let v10 : BitVec 32 := Scalar.remsi v9 c4_i32_3
  let c4_i32_195 : BitVec 32 := 4#32
  let v221 : BitVec 32 := Scalar.muli v10 c4_i32_195
  let v222 : BitVec 32 := Scalar.addi v220 v221
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_196 : BitVec 32 := 1#32
  let v223 : BitVec 32 := Scalar.muli v8 c1_i32_196
  let v224 : BitVec 32 := Scalar.addi v222 v223
  v224.toNat
def k0_off7 (d0 : Dev nD) (c0_i32_93 : BitVec 32) : Fin 3 → Nat :=
  let c2_225 : Index := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c8_i32 : BitVec 32 := 8#32
  let v126 : BitVec 32 := Scalar.addi v5 c8_i32
  let c2_i32_92 : BitVec 32 := 2#32
  let v127 : BitVec 32 := Scalar.subi v126 c2_i32_92
  let v128 : BitVec 32 := Scalar.subi v127 c0_i32_93
  let c4_i32_94 : BitVec 32 := 4#32
  let v129 : BitVec 32 := Scalar.remsi v128 c4_i32_94
  let c256_i32_224 : BitVec 32 := 256#32
  let v248 : BitVec 32 := Scalar.muli v129 c256_i32_224
  let v249 : Index := Scalar.indexCast v248
  let c0_226 : Index := 0#32
  ![2, v249.toNat, 0]
def k0_dev11 (d0 : Dev nD) : Nat :=
  let c0_i32_238 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_237 : BitVec 32 := 16#32
  let v264 : BitVec 32 := Scalar.muli v2 c16_i32_237
  let v265 : BitVec 32 := Scalar.addi c0_i32_238 v264
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_4 : BitVec 32 := 4#32
  let v11 : BitVec 32 := Scalar.addi v5 c4_i32_4
  let c1_i32_5 : BitVec 32 := 1#32
  let v12 : BitVec 32 := Scalar.subi v11 c1_i32_5
  let c4_i32_6 : BitVec 32 := 4#32
  let v13 : BitVec 32 := Scalar.remsi v12 c4_i32_6
  let c4_i32_239 : BitVec 32 := 4#32
  let v266 : BitVec 32 := Scalar.muli v13 c4_i32_239
  let v267 : BitVec 32 := Scalar.addi v265 v266
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_240 : BitVec 32 := 1#32
  let v268 : BitVec 32 := Scalar.muli v8 c1_i32_240
  let v269 : BitVec 32 := Scalar.addi v267 v268
  v269.toNat
def k0_dev12 (d0 : Dev nD) : Nat :=
  let c0_i32_247 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_246 : BitVec 32 := 16#32
  let v270 : BitVec 32 := Scalar.muli v2 c16_i32_246
  let v271 : BitVec 32 := Scalar.addi c0_i32_247 v270
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c4_i32_3 : BitVec 32 := 4#32
  let v10 : BitVec 32 := Scalar.remsi v9 c4_i32_3
  let c4_i32_248 : BitVec 32 := 4#32
  let v272 : BitVec 32 := Scalar.muli v10 c4_i32_248
  let v273 : BitVec 32 := Scalar.addi v271 v272
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_249 : BitVec 32 := 1#32
  let v274 : BitVec 32 := Scalar.muli v8 c1_i32_249
  let v275 : BitVec 32 := Scalar.addi v273 v274
  v275.toNat
def k0_off8 (d0 : Dev nD) (c0_i32_93 : BitVec 32) : Fin 3 → Nat :=
  let c3_278 : Index := 3#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c8_i32 : BitVec 32 := 8#32
  let v126 : BitVec 32 := Scalar.addi v5 c8_i32
  let c2_i32_92 : BitVec 32 := 2#32
  let v127 : BitVec 32 := Scalar.subi v126 c2_i32_92
  let v128 : BitVec 32 := Scalar.subi v127 c0_i32_93
  let c4_i32_94 : BitVec 32 := 4#32
  let v129 : BitVec 32 := Scalar.remsi v128 c4_i32_94
  let c256_i32_277 : BitVec 32 := 256#32
  let v299 : BitVec 32 := Scalar.muli v129 c256_i32_277
  let v300 : Index := Scalar.indexCast v299
  let c0_279 : Index := 0#32
  ![3, v300.toNat, 0]
def k0_dev13 (d0 : Dev nD) : Nat :=
  let c0_i32_291 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_290 : BitVec 32 := 16#32
  let v315 : BitVec 32 := Scalar.muli v2 c16_i32_290
  let v316 : BitVec 32 := Scalar.addi c0_i32_291 v315
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_4 : BitVec 32 := 4#32
  let v11 : BitVec 32 := Scalar.addi v5 c4_i32_4
  let c1_i32_5 : BitVec 32 := 1#32
  let v12 : BitVec 32 := Scalar.subi v11 c1_i32_5
  let c4_i32_6 : BitVec 32 := 4#32
  let v13 : BitVec 32 := Scalar.remsi v12 c4_i32_6
  let c4_i32_292 : BitVec 32 := 4#32
  let v317 : BitVec 32 := Scalar.muli v13 c4_i32_292
  let v318 : BitVec 32 := Scalar.addi v316 v317
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_293 : BitVec 32 := 1#32
  let v319 : BitVec 32 := Scalar.muli v8 c1_i32_293
  let v320 : BitVec 32 := Scalar.addi v318 v319
  v320.toNat
def k0_dev14 (d0 : Dev nD) : Nat :=
  let c0_i32_300 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_299 : BitVec 32 := 16#32
  let v321 : BitVec 32 := Scalar.muli v2 c16_i32_299
  let v322 : BitVec 32 := Scalar.addi c0_i32_300 v321
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c4_i32_3 : BitVec 32 := 4#32
  let v10 : BitVec 32 := Scalar.remsi v9 c4_i32_3
  let c4_i32_301 : BitVec 32 := 4#32
  let v323 : BitVec 32 := Scalar.muli v10 c4_i32_301
  let v324 : BitVec 32 := Scalar.addi v322 v323
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_302 : BitVec 32 := 1#32
  let v325 : BitVec 32 := Scalar.muli v8 c1_i32_302
  let v326 : BitVec 32 := Scalar.addi v324 v325
  v326.toNat
def k0_dev15 (d0 : Dev nD) : Nat :=
  let c0_i32_354 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_353 : BitVec 32 := 16#32
  let v370 : BitVec 32 := Scalar.muli v2 c16_i32_353
  let v371 : BitVec 32 := Scalar.addi c0_i32_354 v370
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c4_i32_3 : BitVec 32 := 4#32
  let v10 : BitVec 32 := Scalar.remsi v9 c4_i32_3
  let c4_i32_355 : BitVec 32 := 4#32
  let v372 : BitVec 32 := Scalar.muli v10 c4_i32_355
  let v373 : BitVec 32 := Scalar.addi v371 v372
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_356 : BitVec 32 := 1#32
  let v374 : BitVec 32 := Scalar.muli v8 c1_i32_356
  let v375 : BitVec 32 := Scalar.addi v373 v374
  v375.toNat
def k0_dev16 (d0 : Dev nD) : Nat :=
  let c0_i32_404 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_403 : BitVec 32 := 16#32
  let v415 : BitVec 32 := Scalar.muli v2 c16_i32_403
  let v416 : BitVec 32 := Scalar.addi c0_i32_404 v415
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c4_i32_3 : BitVec 32 := 4#32
  let v10 : BitVec 32 := Scalar.remsi v9 c4_i32_3
  let c4_i32_405 : BitVec 32 := 4#32
  let v417 : BitVec 32 := Scalar.muli v10 c4_i32_405
  let v418 : BitVec 32 := Scalar.addi v416 v417
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_406 : BitVec 32 := 1#32
  let v419 : BitVec 32 := Scalar.muli v8 c1_i32_406
  let v420 : BitVec 32 := Scalar.addi v418 v419
  v420.toNat
def k0_dev17 (d0 : Dev nD) : Nat :=
  let c0_i32_454 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_453 : BitVec 32 := 16#32
  let v460 : BitVec 32 := Scalar.muli v2 c16_i32_453
  let v461 : BitVec 32 := Scalar.addi c0_i32_454 v460
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c4_i32_3 : BitVec 32 := 4#32
  let v10 : BitVec 32 := Scalar.remsi v9 c4_i32_3
  let c4_i32_455 : BitVec 32 := 4#32
  let v462 : BitVec 32 := Scalar.muli v10 c4_i32_455
  let v463 : BitVec 32 := Scalar.addi v461 v462
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_456 : BitVec 32 := 1#32
  let v464 : BitVec 32 := Scalar.muli v8 c1_i32_456
  let v465 : BitVec 32 := Scalar.addi v463 v464
  v465.toNat
def k0_dev18 (d0 : Dev nD) : Nat :=
  let c0_i32_504 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_503 : BitVec 32 := 16#32
  let v505 : BitVec 32 := Scalar.muli v2 c16_i32_503
  let v506 : BitVec 32 := Scalar.addi c0_i32_504 v505
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c4_i32_3 : BitVec 32 := 4#32
  let v10 : BitVec 32 := Scalar.remsi v9 c4_i32_3
  let c4_i32_505 : BitVec 32 := 4#32
  let v507 : BitVec 32 := Scalar.muli v10 c4_i32_505
  let v508 : BitVec 32 := Scalar.addi v506 v507
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_506 : BitVec 32 := 1#32
  let v509 : BitVec 32 := Scalar.muli v8 c1_i32_506
  let v510 : BitVec 32 := Scalar.addi v508 v509
  v510.toNat
abbrev stage0_0 : Fin 1 → Memref sig .tc .vmem S4x1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4x1024x32x64 : Shape := ⟨4, ![4, 1024, 32, 64]⟩
abbrev S2048x2048 : Shape := ⟨2, ![2048, 2048]⟩
abbrev S4x1024x2048 : Shape := ⟨3, ![4, 1024, 2048]⟩

abbrev nBuf : Space → Nat
  | .hbm => 4
  | .vmem => 0
  | .smem => 0
  | _ => 0

abbrev bufTy : (tb : Table) → Fin (tcTables nBuf tb) → BufTy
  | .hbm, ⟨0, _⟩ => ⟨S4x1024x32x64, .f32⟩
  | .hbm, ⟨1, _⟩ => ⟨S2048x2048, .f32⟩
  | .hbm, ⟨2, _⟩ => ⟨S4x1024x2048, .f32⟩
  | .hbm, ⟨3, _⟩ => ⟨S4x1024x2048, .f32⟩
  | _, _ => ⟨S4x1024x32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Mirror.lean ====
/-
The kernel's body, regrouped: the printed body is one long line of operations, sixteen near-copies of
four short stretches (one per chunk `q` of 256 rows). Each stretch is written here once, for any chunk,
and the printed body is shown to be those stretches run in order (`body_eq`), by unfolding.
-/
module

public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.RingProof

open Cert.KernelIdeal Cert.KernelIdeal.Gen
open Idealize.ShloMosaic Idealize.ShloMosaic.TcCoe
open Idealize.SL Idealize.SL.Sem

variable {F : FTy → Type} [FloatOps F]

/-! ## The buffers, the chunks and the semaphores -/

/-- The staged operand block, the staged weights, the staged result, the landing buffer, the accumulator. -/
abbrev oM : Memref sig .tc .vmem S4x1024x512 .f32 := Memref.whole cc0_stg0_0
abbrev wM : Memref sig .tc .vmem S512x2048 .f32 := Memref.whole cc0_stg1_0
abbrev rM : Memref sig .tc .vmem S4x256x2048 .f32 := Memref.whole cc0_stg2_0
abbrev landM : Memref sig .tc .vmem S2x1024x2048 .f32 := Memref.whole cc0_scratch0
abbrev sumM : Memref sig .tc .vmem S1024x2048 .f32 := Memref.whole cc0_scratch1

/-- Rows `256 q … 256 q + 255` lie inside the accumulator; -/
theorem accR_inb (q : Fin 4) : ∀ a, (![256 * q.val, 0] : Fin 2 → ℕ) a + S256x2048.size a ≤ S1024x2048.size a := by
  revert q; decide
/-- the same rows of either slot lie inside the landing buffer. -/
theorem landR_inb (s : Fin 2) (q : Fin 4) : ∀ a, (![s.val, 256 * q.val, 0] : Fin 3 → ℕ) a + S1x256x2048.size a ≤ S2x1024x2048.size a := by
  revert s q; decide
theorem semR_inb (s : Fin 2) (q : Fin 4) : ∀ a, (![s.val, q.val] : Fin 2 → ℕ) a + S1x1.size a ≤ S2x4.size a := by
  revert s q; decide
theorem crdR_inb (q : Fin 4) : ∀ a, (![q.val] : Fin 1 → ℕ) a + S1.size a ≤ S4.size a := by
  revert q; decide

/-- Chunk `q` of the accumulator as a rectangle of rows, and as a memref. -/
abbrev accR (q : Fin 4) : Rect S1024x2048 := Rect.unit (s := S1024x2048) ![256 * q.val, 0] S256x2048.size (accR_inb q)
abbrev accM (q : Fin 4) : Memref sig .tc .vmem S256x2048 .f32 := sumM.slice (accR q) (fun _ => rfl)
/-- Chunk `q` of landing slot `s`, as a rectangle, with its unit axis, and without it. -/
abbrev landR (s : Fin 2) (q : Fin 4) : Rect S2x1024x2048 := Rect.unit (s := S2x1024x2048) ![s.val, 256 * q.val, 0] S1x256x2048.size (landR_inb s q)
abbrev land3M (s : Fin 2) (q : Fin 4) : Memref sig .tc .vmem S1x256x2048 .f32 := landM.slice (landR s q) (fun _ => rfl)
abbrev slotM (s : Fin 2) (q : Fin 4) : Memref sig .tc .vmem S256x2048 .f32 := (land3M s q).squeeze S256x2048 squeezes_S1x256x2048_S256x2048

/-- The DMA semaphores of slot `s`, chunk `q` (departure and arrival), the credit semaphore of chunk `q`, the runtime's barrier. -/
abbrev sndS (s : Fin 2) (q : Fin 4) : DmaSem sig := ((cc0_scratch2.slice (Rect.unit (s := S2x4) ![s.val, q.val] S1x1.size (semR_inb s q))).squeeze S_ squeezes_S1x1_S_).sem
abbrev rcvS (s : Fin 2) (q : Fin 4) : DmaSem sig := ((cc0_scratch3.slice (Rect.unit (s := S2x4) ![s.val, q.val] S1x1.size (semR_inb s q))).squeeze S_ squeezes_S1x1_S_).sem
abbrev crdS (q : Fin 4) : Sem sig := ((cc0_scratch4.slice (Rect.unit (s := S4) ![q.val] S1.size (crdR_inb q))).squeeze S_ squeezes_S1_S_).sem
abbrev barS : Sem sig := (SemArray.scalar (sig.barrier 0 rfl) : Sems sig S_).sem

/-! ## The stretches -/

/-- Programs of a device's core that return an `α`. -/
abbrev Code (F : FTy → Type) (α : Type) := Prog (TpuEff nD τ sig (Elt F) Λ₀ .tc) α

/-- Where a chunk's rows of the operand start, with the evidence that they lie inside it. -/
abbrev Off : Type := { o : Fin 3 → ℕ // ∀ a, o a + S1x256x512.size a ≤ S4x1024x512.size a }

abbrev loadO (o : Off) : Code F (Vec F S1x256x512 .f32) :=
  Prog.lift (.load oM (Rect.unit (s := S4x1024x512) o.1 S1x256x512.size o.2).toLoadRect (View.loadsAt_vmem h_S1x256x512))
abbrev loadW : Code F (Vec F S512x2048 .f32) :=
  Prog.lift (.load wM (Rect.unit (s := S512x2048) ![0, 0] S512x2048.size inb_S512x2048_S512x2048_0_0).toLoadRect (View.loadsAt_vmem h_S512x2048))
abbrev loadAcc (q : Fin 4) : Code F (Vec F S256x2048 .f32) :=
  Prog.lift (.load sumM (accR q).toLoadRect (View.loadsAt_vmem h_S256x2048))
abbrev loadSlot (s : Fin 2) (q : Fin 4) : Code F (Vec F S1x256x2048 .f32) :=
  Prog.lift (.load landM (landR s q).toLoadRect (View.loadsAt_vmem h_S1x256x2048))
abbrev storeAcc (q : Fin 4) (v : FVec F S256x2048 .f32) : Code F PUnit :=
  Prog.lift (.store sumM (accR q) v Finset.univ (View.stores_vmem_bits_univ h_S256x2048 rfl) (.inl rfl))

/-- Send accumulator chunk `q` to slot `s` of device `n`. -/
abbrev sendAcc (n : Dev nD) (s : Fin 2) (q : Fin 4) : Code F PUnit :=
  Prog.lift (.enqueueDma (accM q) (.remote (Dev.tc n) (slotM s q) (.dma (sndS s q))) (.dma (rcvS s q)) (View.wordExact_bits rfl) ((View.wordExact_bits rfl).reshape _ _) ⟨⟨rfl, Or.inl rfl⟩, trivial⟩)
/-- Wait for the departure, then for the arrival, of slot `s`'s transfer of chunk `q`. -/
abbrev waitSnd (s : Fin 2) (q : Fin 4) : Code F PUnit :=
  Prog.lift (.waitDma2 (sndS s q) (slotM s q) (accM q) ((View.wordExact_bits rfl).reshape _ _) (View.wordExact_bits rfl))
abbrev waitRcv (s : Fin 2) (q : Fin 4) : Code F PUnit :=
  Prog.lift (.waitDma2 (rcvS s q) (accM q) (slotM s q) (View.wordExact_bits rfl) ((View.wordExact_bits rfl).reshape _ _))

/-- The first partial product of chunk `q` into the accumulator. -/
def fill (o : Off) (q : Fin 4) : Code F PUnit := do
  let v ← loadO o
  let w ← loadW
  let _ ← loadAcc q
  storeAcc q (k0_pay1 v w)
/-- The next partial product of chunk `q` plus what landed in slot `s`, into the accumulator. -/
def fold (o : Off) (s : Fin 2) (q : Fin 4) : Code F PUnit := do
  let v ← loadO o
  let w ← loadW
  let x ← loadSlot s q
  let _ ← loadAcc q
  storeAcc q (k0_pay7 v w x)

/-- Chunk `q`'s opening: fill and send; -/
def opening (o : Off) (n : Dev nD) (q : Fin 4) : Code F PUnit := do
  fill o q
  sendAcc n 0 q
/-- its first step: receive in slot 0, fold, credit the sender `p`, send to slot 1; -/
def stepA (o : Off) (p n : Dev nD) (q : Fin 4) : Code F PUnit := do
  waitSnd 0 q
  waitRcv 0 q
  fold o 0 q
  semSignalWord p (crdS q) 1#32
  sendAcc n 1 q
/-- its second: receive in slot 1, fold, wait for the credit, send to slot 0; -/
def stepB (o : Off) (n : Dev nD) (q : Fin 4) : Code F PUnit := do
  waitSnd 1 q
  waitRcv 1 q
  fold o 1 q
  semWaitWord (crdS q) 1#32
  sendAcc n 0 q
/-- its last: receive in slot 0, fold. -/
def stepC (o : Off) (q : Fin 4) : Code F PUnit := do
  waitSnd 0 q
  waitRcv 0 q
  fold o 0 q

/-- The entry handshake: signal both neighbours' barrier, wait for both. -/
def greet (p n : Dev nD) : Code F PUnit := do
  semSignalWord p barS 1#32
  semSignalWord n barS 1#32
  semWaitWord barS 2#32
/-- The accumulator, relaid, into the result. -/
def finish : Code F PUnit := do
  let v ← Prog.lift (.load sumM (Rect.unit (s := S1024x2048) ![0, 0] S1024x2048.size inb_S1024x2048_S1024x2048_0_0).toLoadRect (View.loadsAt_vmem h_S1024x2048))
  let _ ← Prog.lift (.load rM (Rect.unit (s := S4x256x2048) ![0, 0, 0] S4x256x2048.size inb_S4x256x2048_S4x256x2048_0_0_0).toLoadRect (View.loadsAt_vmem h_S4x256x2048))
  Prog.lift (.store rM (Rect.unit (s := S4x256x2048) ![0, 0, 0] S4x256x2048.size inb_S4x256x2048_S4x256x2048_0_0_0) (k0_pay22 v) Finset.univ (View.stores_vmem_bits_univ h_S4x256x2048 rfl) (.inl rfl))

/-- The printed chains of offsets of chunk `q`: the opening's, and step `r`'s. -/
def offO (d : Dev nD) : Fin 4 → Off
  | 0 => ⟨k0_off1 d, k0_off1_inb d⟩ | 1 => ⟨k0_off2 d, k0_off2_inb d⟩ | 2 => ⟨k0_off3 d, k0_off3_inb d⟩ | 3 => ⟨k0_off4 d, k0_off4_inb d⟩
def offS (d : Dev nD) (r : Fin 3) : Fin 4 → Off
  | 0 => ⟨k0_off5 d (BitVec.ofNat 32 r.val), k0_off5_inb d r⟩ | 1 => ⟨k0_off6 d (BitVec.ofNat 32 r.val), k0_off6_inb d r⟩
  | 2 => ⟨k0_off7 d (BitVec.ofNat 32 r.val), k0_off7_inb d r⟩ | 3 => ⟨k0_off8 d (BitVec.ofNat 32 r.val), k0_off8_inb d r⟩
/-- The printed chains of device ids of chunk `q`: whom the opening sends to; whom step A credits and sends to; whom step B sends to. -/
def devO (d : Dev nD) : Fin 4 → Dev nD
  | 0 => ⟨k0_dev3 d, k0_dev3_lt d⟩ | 1 => ⟨k0_dev4 d, k0_dev4_lt d⟩ | 2 => ⟨k0_dev5 d, k0_dev5_lt d⟩ | 3 => ⟨k0_dev6 d, k0_dev6_lt d⟩
def devP (d : Dev nD) : Fin 4 → Dev nD
  | 0 => ⟨k0_dev7 d, k0_dev7_lt d⟩ | 1 => ⟨k0_dev9 d, k0_dev9_lt d⟩ | 2 => ⟨k0_dev11 d, k0_dev11_lt d⟩ | 3 => ⟨k0_dev13 d, k0_dev13_lt d⟩
def devA (d : Dev nD) : Fin 4 → Dev nD
  | 0 => ⟨k0_dev8 d, k0_dev8_lt d⟩ | 1 => ⟨k0_dev10 d, k0_dev10_lt d⟩ | 2 => ⟨k0_dev12 d, k0_dev12_lt d⟩ | 3 => ⟨k0_dev14 d, k0_dev14_lt d⟩
def devB (d : Dev nD) : Fin 4 → Dev nD
  | 0 => ⟨k0_dev15 d, k0_dev15_lt d⟩ | 1 => ⟨k0_dev16 d, k0_dev16_lt d⟩ | 2 => ⟨k0_dev17 d, k0_dev17_lt d⟩ | 3 => ⟨k0_dev18 d, k0_dev18_lt d⟩

/-- One stretch run for the four chunks in order. -/
abbrev each (f : Fin 4 → Code F PUnit) : Code F PUnit := do
  f 0
  f 1
  f 2
  f 3

/-- The body of device `d`. -/
def mirror (d : Dev nD) : Code F PUnit := do
  greet ⟨k0_dev1 d, k0_dev1_lt d⟩ ⟨k0_dev2 d, k0_dev2_lt d⟩
  each fun q => opening (offO d q) (devO d q) q
  each fun q => stepA (offS d 0 q) (devP d q) (devA d q) q
  each fun q => stepB (offS d 1 q) (devB d q) q
  each fun q => stepC (offS d 2 q) q
  finish

set_option maxRecDepth 20000 in
set_option maxHeartbeats 4000000 in
/-- The printed body reads its device's number, then runs the stretches. -/
theorem body_eq :
    cc0_body (F := F) oM (Memref.isWhole_whole _) wM (Memref.isWhole_whole _) rM (Memref.isWhole_whole _)
      landM (Memref.isWhole_whole _) sumM (Memref.isWhole_whole _) cc0_scratch2 cc0_scratch3 cc0_scratch4
      = Prog.op .deviceId mirror := by
  rfl

end Cert.RingProof

end
-- ==== Proof.Sched.lean ====
/-
Who tells whom what. Every signal and every landing of the kernel is one EVENT `e` done by one device: the two
greetings, the departure and the arrival of each of the three transfers of each chunk, the credit of each chunk.
An event fixes the semaphore it raises, on which device, in which round of that semaphore, by how much, and what it
hands to that semaphore's owner. The schedule, the tokens, what a device owes and the order of the waits are all read
off the events, so that each fact about them is stated once, for every event.
-/
module

public import proofs.«01_k».proof.Proof.Mirror
public import Idealize.ShloMosaic.Lib.Pipeline.Launch
public import Idealize.ShloMosaic.Lib.Pipeline.Kit
public import Idealize.ShloMosaic.Lib.Tactic
public import Idealize.ShloMosaic.Lib.Memref
public import Idealize.ShloMosaic.Lib.Rounds.Family

@[expose] public section

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The ring: the devices that differ in the mesh axis `y` only -/

set_option backward.proofsInPublic true in
/-- The device at `y + 1`; -/
def nxt (c : Dev nD) : Dev nD := ⟨16 * (c.val / 16) + 4 * (((c.val / 4) % 4 + 1) % 4) + c.val % 4, by have := c.isLt; simp only [nD] at *; omega⟩
set_option backward.proofsInPublic true in
/-- the device at `y - 1`. -/
def prv (c : Dev nD) : Dev nD := ⟨16 * (c.val / 16) + 4 * (((c.val / 4) % 4 + 3) % 4) + c.val % 4, by have := c.isLt; simp only [nD] at *; omega⟩

theorem prv_nxt (c : Dev nD) : prv (nxt c) = c := by revert c; decide
theorem nxt_prv (c : Dev nD) : nxt (prv c) = c := by revert c; decide

/-! ## Events -/

/-- `greetP`, `greetN`: the greeting to `prv`, to `nxt`. `snd s q`, `rcv s q`: the departure and the arrival at `nxt` of
    transfer `s` of chunk `q`. `crd q`: the credit for chunk `q`, to `prv`. -/
inductive Ev where
  | greetP | greetN | snd (s : Fin 3) (q : Fin 4) | rcv (s : Fin 3) (q : Fin 4) | crd (q : Fin 4)
  deriving DecidableEq

instance : Fintype Ev where
  elems := {Ev.greetP, Ev.greetN} ∪ Finset.univ.image (fun x : Fin 3 × Fin 4 => Ev.snd x.1 x.2) ∪ Finset.univ.image (fun x : Fin 3 × Fin 4 => Ev.rcv x.1 x.2)
    ∪ Finset.univ.image Ev.crd
  complete e := by cases e <;> simp

/-- Transfers 0 and 2 go through slot 0, transfer 1 through slot 1. -/
abbrev slotOf : Fin 3 → Fin 2 := ![0, 1, 0]
/-- Transfer 2 is the second through its slot. -/
abbrev useOf : Fin 3 → ℕ := ![0, 0, 1]

/-- What one chunk's transfer credits. -/
def N : ℕ := (slotM 0 0).view.dmaCredit
theorem N_pos : 0 < N := View.dmaCredit_pos _ (by simp [Shape.numel, Fin.prod_univ_two])

namespace Ev

set_option backward.proofsInPublic true in
/-- The semaphore an event raises, by its number; -/
def sem : Ev → SemLoc sig
  | greetP => .reg ⟨4, by decide⟩ | greetN => .reg ⟨4, by decide⟩
  | snd s q => .dma ⟨3 + 4 * (slotOf s).val + q.val, by revert s q; decide⟩
  | rcv s q => .dma ⟨11 + 4 * (slotOf s).val + q.val, by revert s q; decide⟩
  | crd q => .reg ⟨q.val, by revert q; decide⟩
/-- on which device, when `d` does it; -/
def dev : Ev → Dev nD → Dev nD
  | greetP, d => prv d | greetN, d => nxt d | snd _ _, d => d | rcv _ _, d => nxt d | crd _, d => prv d
/-- in which of that semaphore's rounds; -/
def rnd : Ev → ℕ
  | greetP => 0 | greetN => 0 | snd s _ => useOf s | rcv s _ => useOf s | crd _ => 0
/-- by how much; -/
def amt : Ev → ℕ
  | greetP => 1 | greetN => 1 | snd _ _ => N | rcv _ _ => N | crd _ => 1
/-- under which index it is owed (the second arrival in slot 0 apart from the first); -/
def ix : Ev → Bool
  | rcv 2 _ => true | _ => false
/-- and how late it comes: a wait is allowed while everything still owed comes later. -/
def lvl : Ev → ℕ
  | greetP => 1 | greetN => 1 | snd _ _ => 0 | rcv s _ => ![2, 4, 6] s | crd _ => 3

/-- The semaphore cell raised by event `e` of device `d`. -/
abbrev cell (e : Ev) (d : Dev nD) : GSem nD τ sig := ((e.dev d : Thread nD τ), e.sem)

theorem amt_pos : ∀ e : Ev, 0 < e.amt
  | greetP => Nat.one_pos | greetN => Nat.one_pos | snd _ _ => N_pos | rcv _ _ => N_pos | crd _ => Nat.one_pos

theorem dev_inj (e : Ev) {d d' : Dev nD} (h : e.dev d = e.dev d') : d = d' := by
  cases e
  · rw [← nxt_prv d, ← nxt_prv d']; exact congrArg nxt h
  · rw [← prv_nxt d, ← prv_nxt d']; exact congrArg prv h
  · exact h
  · rw [← prv_nxt d, ← prv_nxt d']; exact congrArg prv h
  · rw [← nxt_prv d, ← nxt_prv d']; exact congrArg nxt h

/-- The device that does `e` to `d`'s semaphore. -/
def src : Ev → Dev nD → Dev nD
  | greetP, d => nxt d | greetN, d => prv d | snd _ _, d => d | rcv _ _, d => prv d | crd _, d => nxt d

theorem dev_src : ∀ (e : Ev) (d : Dev nD), e.dev (e.src d) = d
  | greetP, d => prv_nxt d | greetN, d => nxt_prv d | snd _ _, _ => rfl | rcv _ _, d => nxt_prv d | crd _, d => prv_nxt d

end Ev

theorem barS_eq : SemLoc.reg barS = Ev.greetP.sem := by decide
theorem sndS_eq : ∀ (s : Fin 3) (q : Fin 4), SemLoc.dma (sndS (slotOf s) q) = (Ev.snd s q).sem := by decide
theorem rcvS_eq : ∀ (s : Fin 3) (q : Fin 4), SemLoc.dma (rcvS (slotOf s) q) = (Ev.rcv s q).sem := by decide
theorem crdS_eq : ∀ (q : Fin 4), SemLoc.reg (crdS q) = (Ev.crd q).sem := by decide

/-- The events of one semaphore and round, by cases over the table. -/
def evsAt (sm : SemLoc sig) (r : ℕ) : Finset Ev := Finset.univ.filter fun e => e.sem = sm ∧ e.rnd = r

theorem mem_evsAt (e : Ev) : e ∈ evsAt e.sem e.rnd := Finset.mem_filter.mpr ⟨Finset.mem_univ _, rfl, rfl⟩

/-- How late a wait under index `i` comes: as late as the event it waits for. -/
def lvAt (sm : SemLoc sig) (i : Bool) : ℕ := Finset.univ.sup fun e : Ev => if e.sem = sm ∧ e.ix = i then e.lvl else 0

set_option maxRecDepth 100000 in
theorem evsAt_bar : evsAt Ev.greetP.sem 0 = {Ev.greetP, Ev.greetN} := by decide +kernel
set_option maxRecDepth 100000 in
theorem evsAt_snd : ∀ s q, evsAt (Ev.snd s q).sem (Ev.snd s q).rnd = {Ev.snd s q} := by decide +kernel
set_option maxRecDepth 100000 in
theorem evsAt_rcv : ∀ s q, evsAt (Ev.rcv s q).sem (Ev.rcv s q).rnd = {Ev.rcv s q} := by decide +kernel
set_option maxRecDepth 100000 in
theorem evsAt_crd : ∀ q, evsAt (Ev.crd q).sem (Ev.crd q).rnd = {Ev.crd q} := by decide +kernel
set_option maxRecDepth 100000 in
theorem lvAt_ev : ∀ e : Ev, lvAt e.sem e.ix = e.lvl := by decide +kernel

end Cert.RingProof

end
-- ==== Proof.Proto.lean ====
/-
The protocol read off the events: what each hands over, the schedule of the semaphores, what a device owes and which
waits it may make, and the three moves of the protocol — signal, wait, transfer — as rules about events.
-/
module

public import proofs.«01_k».proof.Proof.Sched

@[expose] public section

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline library's copy, and this protocol's with events for duties -/

abbrev UU : Type := UR sig nD τ × URounds (GSem nD τ sig) Ev
local notation "𝕄" => MT nD τ sig Bool (Elt F) ℕ UU ℕ
abbrev EP : Emb (UR sig nD τ) (MT nD τ sig Bool (Elt F) ℕ UU ℕ) := embL
abbrev ER : Emb (URounds (GSem nD τ sig) Ev) (MT nD τ sig Bool (Elt F) ℕ UU ℕ) := embR
abbrev 𝒱₀ : Variants := Variants.none

/-- Owning one memref of device `c` in full, at contents `X`; at some contents. -/
abbrev has (c : Dev nD) {s : Shape} {e : EltTy} (m : Memref sig .tc .vmem s e) (X : s.Idx → Elt F e) : sProp 𝕄 := owns (c : Thread nD τ) m fullShare X
abbrev some' (c : Dev nD) {s : Shape} {e : EltTy} (m : Memref sig .tc .vmem s e) : sProp 𝕄 := iprop(∃ X, has c m X)

/-! ## The contents that travel -/

/-- Each device's operand block (relaid as `4 × 1024 × 512`) and weights. -/
structure Data (F : FTy → Type) where
  o : Dev nD → FVec F S4x1024x512 .f32
  w : Dev nD → FVec F S512x2048 .f32

variable (X : Data F)

/-- The rows of the operand at an offset, and the weights, as loads give them. -/
def Data.rows (c : Dev nD) (o : Off) : Vec F S1x256x512 .f32 := fun j => X.o c ((Rect.unit (s := S4x1024x512) o.1 S1x256x512.size o.2).emb j)
def Data.wts (c : Dev nD) : Vec F S512x2048 .f32 := fun j => X.w c ((Rect.unit (s := S512x2048) ![0, 0] S512x2048.size inb_S512x2048_S512x2048_0_0).emb j)
/-- A landed chunk with its unit axis back, as the load from the landing buffer gives it. -/
def lift (v : FVec F S256x2048 .f32) : Vec F S1x256x2048 .f32 := shapeCast S1x256x2048 v rfl

/-- The offset of round `s`'s rows of chunk `q` (round 0 the opening, round `s + 1` after transfer `s`). -/
def offAt (c : Dev nD) (q : Fin 4) : Fin 4 → Off := ![offO c q, offS c 0 q, offS c 1 q, offS c 2 q]

/-- Device `c`'s accumulator chunk `q` after round `s`: its own partial product, plus what `prv` had after the round before. -/
def Data.acc : ℕ → Dev nD → Fin 4 → FVec F S256x2048 .f32
  | 0, c, q => k0_pay1 (X.rows c (offO c q)) (X.wts c)
  | s + 1, c, q => k0_pay7 (X.rows c (offS c (Fin.ofNat 3 s) q)) (X.wts c) (lift (Data.acc s (prv c) q))

/-! ## What each event hands to the owner `c` of the semaphore it raises -/

/-- The right neighbour's two landing slots of all chunks, its arrival semaphores in round 0; -/
def payP (c : Dev nD) : sProp 𝕄 := bigSep Finset.univ fun q : Fin 4 =>
  iprop((some' (nxt c) (slotM 0 q) ∗ reached ER ((Ev.rcv 0 q).cell c) 0) ∗ (some' (nxt c) (slotM 1 q) ∗ reached ER ((Ev.rcv 1 q).cell c) 0))
/-- the left neighbour's credit semaphores in round 0; -/
def payN (c : Dev nD) : sProp 𝕄 := bigSep Finset.univ fun q : Fin 4 => reached ER ((Ev.crd q).cell c) 0
/-- the chunk read; the chunk landed; the right neighbour's slot 0, free again. -/
def pay (c : Dev nD) : Ev → sProp 𝕄
  | .greetP => payP c
  | .greetN => payN c
  | .snd s q => has c (accM q) (X.acc s.val c q)
  | .rcv s q => has c (slotM (slotOf s) q) (X.acc s.val (prv c) q)
  | .crd q => iprop(some' (nxt c) (slotM 0 q) ∗ reached ER ((Ev.rcv 2 q).cell c) 1)

instance pay_storable (c : Dev nD) (e : Ev) : BI.Storable (upEmb : UEmb _ 𝕄) (pay X c e) := by
  cases e <;> unfold pay <;> (try unfold payP) <;> (try unfold payN) <;> infer_instance

/-- The schedule: a core's semaphore has, in each round, the events that raise it in that round. -/
def ringRd : Rounds.Schedule (GSem nD τ sig) Ev 𝕄 where
  duties g r := if g.1.2 = .tc then evsAt g.2 r else ∅
  unitless _ := False
  amount _ _ e := e.amt
  payload g _ e := pay X g.1.1 e
  amount_pos _ _ e _ := e.amt_pos

instance ringRd_storable (g : GSem nD τ sig) (r : ℕ) (e : Ev) : BI.Storable (upEmb : UEmb _ 𝕄) ((ringRd X).payload g r e) := pay_storable X g.1.1 e

theorem duties_tc (c : Dev nD) (sm : SemLoc sig) (r : ℕ) : (ringRd X).duties ((c : Thread nD τ), sm) r = evsAt sm r := by dsimp only [ringRd]; exact if_pos rfl
theorem mem_duties (e : Ev) (c : Dev nD) : e ∈ (ringRd X).duties (e.cell c) e.rnd := by rw [duties_tc]; exact mem_evsAt e

/-! ## What a device owes; the order of the waits -/

/-- The events `l`, first to come first, that device `c` still owes. -/
def owed (c : Dev nD) : List Ev → CellTallies nD τ sig Bool
  | [] => 0
  | e :: l => owed c l + tallyAt (e.cell c) e.ix e.amt

theorem owed_cons (c : Dev nD) (e : Ev) (l : List Ev) : owed c (e :: l) = owed c l + tallyAt (e.cell c) e.ix e.amt := rfl

theorem owed_pos {c : Dev nD} {g : GSem nD τ sig} {i : Bool} : ∀ {l : List Ev}, 0 < owed c l g i → ∃ e ∈ l, g = e.cell c ∧ i = e.ix
  | [], h => absurd h (Nat.lt_irrefl 0)
  | e :: l, h => by
    unfold owed at h
    rw [Pi.add_apply, Finsupp.add_apply, tallyAt_apply] at h
    by_cases he : g = e.cell c ∧ i = e.ix
    · exact ⟨e, List.mem_cons_self, he⟩
    · rw [if_neg he] at h
      obtain ⟨e', h', hh⟩ := owed_pos (l := l) h
      exact ⟨e', List.mem_cons_of_mem _ h', hh⟩

def L (g : GSem nD τ sig) : Finset Bool := if g.1.2 = .tc then Finset.univ else ∅
def lv (g : GSem nD τ sig) (i : Bool) : ℕ := lvAt g.2 i
theorem L_of_ne (g : GSem nD τ sig) (h : g.1.2 ≠ .tc) : L g = ∅ := if_neg h
theorem mem_L (c : Dev nD) (sm : SemLoc sig) (i : Bool) : i ∈ L ((c : Thread nD τ), sm) := by unfold L; rw [if_pos rfl]; exact Finset.mem_univ _

omit [FloatOps F] in
/-- A wait as late as `n` is allowed while everything still owed comes later than `n`. -/
theorem mayWait (c : Dev nD) (sm : SemLoc sig) (i : Bool) (l : List Ev) (n : ℕ) (hn : lvAt sm i ≤ n) (hl : ∀ e ∈ l, n < e.lvl) :
    (levAts L lv : sProp 𝕄) ⊢ MayWait (c : Thread nD τ) sm i (owed c l) :=
  MayOwe.of_cut (L := L) (lev := lv) n (fun p hp => mem_L _ _ _)
    (fun g u hg => by obtain ⟨e, -, rfl, rfl⟩ := owed_pos hg; exact mem_L _ _ _)
    (fun p hp => by rw [Finset.mem_singleton.mp hp]; exact hn)
    (fun g u hg => by obtain ⟨e, he, rfl, rfl⟩ := owed_pos hg; exact (hl e he).trans_eq (lvAt_ev e).symm)

/-! ## The rules -/

/-- What every device knows throughout: the invariants of all cells, and the order of the waits. -/
def know (κ : GSem nD τ sig → ℕ) : sProp 𝕄 :=
  iprop((bigSep Finset.univ fun x : Dev nD × Ev => cellInv ER (ringRd X) (κ (x.2.cell x.1)) (x.2.cell x.1)) ∗ levAts L lv)

instance know_persistent (κ : GSem nD τ sig → ℕ) : BI.Persistent (know X κ) := by unfold know; infer_instance

theorem know_inv (κ : GSem nD τ sig → ℕ) (e : Ev) (c : Dev nD) : know X κ ⊢ cellInv ER (ringRd X) (κ (e.cell c)) (e.cell c) := by
  unfold know
  iintro ⟨H, -⟩
  iapply (bigSep_elim (Finset.mem_univ (c, e)) : _ ⊢ _) $$ H

/-- What device `c` owes, whatever it waited for so far; the right to do the event `e`; the cell of `c` that `e` raises; the right
    to wait for it there; `c`'s position on that cell. -/
def owesL (c : Dev nD) (l : List Ev) : sProp 𝕄 := iprop(∃ W, owes (c : Thread nD τ) (owed c l) W)
abbrev tok (c : Dev nD) (e : Ev) : sProp 𝕄 := dutyTok ER (e.cell c) e.rnd e

abbrev own (c : Dev nD) (e : Ev) : GSem nD τ sig := ((c : Thread nD τ), e.sem)
abbrev due (c : Dev nD) (e : Ev) : sProp 𝕄 := cred (tallyAt (own c e) e.ix e.amt)
abbrev at' (c : Dev nD) (e : Ev) (r : ℕ) : sProp 𝕄 := atPos ER (own c e) r ∅ 0

theorem own_eq (c : Dev nD) (e : Ev) : own c e = e.cell (e.src c) := by unfold own Ev.cell; rw [Ev.dev_src]
theorem know_own (κ : GSem nD τ sig → ℕ) (e : Ev) (c : Dev nD) : know X κ ⊢ cellInv ER (ringRd X) (κ (own c e)) (own c e) := by
  rw [own_eq]; exact know_inv X κ e _
theorem know_wait (κ : GSem nD τ sig → ℕ) (c : Dev nD) (sm : SemLoc sig) (i : Bool) (l : List Ev) (n : ℕ) (hn : lvAt sm i ≤ n) (hl : ∀ e ∈ l, n < e.lvl) :
    know X κ ⊢ MayWait (c : Thread nD τ) sm i (owed c l) := by
  have h := mayWait (F := F) c sm i l n hn hl
  unfold know
  iintro ⟨-, H⟩
  iapply h $$ H

/-- Device `c`'s core, running `p`, runs safely and ends in `Q`. -/
abbrev runs (c : Dev nD) (p : Code F PUnit) (Q : PUnit → sProp 𝕄) : sProp 𝕄 := wp frame (wpE (defs₀ (F := F)) 𝒱₀ (c : Thread nD τ) none) Set.univ p Q

section Rules
variable (κ : GSem nD τ sig → ℕ) (c : Dev nD)

/-- SIGNAL: device `c` does the event `e`, a signal, paying what it hands over. -/
theorem wp_tell {Q : PUnit → sProp 𝕄} {k : PUnit → Code F PUnit} (e : Ev) {n : Dev nD} {s : Sem sig} {a : ℕ} (hs : SemLoc.reg s = e.sem) (hn : n = e.dev c) (ha : e.amt = a) (l : List Ev) :
    iprop(know X κ ∗ owesL c (e :: l) ∗ tok c e ∗ pay X (e.dev c) e ∗ reached ER (e.cell c) e.rnd)
      ⊢ iprop((owesL c l -∗ runs c (k ⟨⟩) Q) -∗ runs c (.op (.semSignal (n : Thread nD τ) s a) k) Q) := by
  subst hn
  have hc : e.cell c = ((e.dev c : Thread nD τ), SemLoc.reg s) := by unfold Ev.cell; rw [hs]
  have hi := know_inv X κ e c
  unfold owesL tok
  rw [hc] at hi ⊢
  iintro ⟨#Hκ, ⟨%W, HO⟩, Ht, Hp, #Hr⟩ Hk
  ihave #Hi := hi $$ Hκ
  ihave Hp := (show pay X (e.dev c) e ⊢ (ringRd X).payload ((e.dev c : Thread nD τ), SemLoc.reg s) e.rnd e from .rfl) $$ Hp
  iapply (Rounds.wp_signal 𝒱₀ ER (ringRd X) (c : Thread nD τ) none (dst := (e.dev c : Thread nD τ)) (sem := s) (κ := κ ((e.dev c : Thread nD τ), SemLoc.reg s)) (r := e.rnd) (d := e)
      (by rw [← hc]; exact mem_duties X e c) ha e.ix (O₀ := owed c (e :: l)) (owed c l) (by rw [owed_cons, hc, ha])) $$ [HO Ht Hp]
  · isplitr; · iexact Hi
    isplitl [HO]; · iexact HO
    isplitl [Ht]; · iexact Ht
    isplitl [Hp]; · iexact Hp
    iexact Hr
  iintro HO
  iapply Hk
  iexists W; iexact HO

/-- WAIT: device `c` waits for the event `e`, the only one of its semaphore and round, and takes what it hands over. -/
theorem wp_await {Q : PUnit → sProp 𝕄} {k : PUnit → Code F PUnit} (e : Ev) {w : TpuEff nD τ sig (Elt F) Λ₀ .tc PUnit} {sm : SemLoc sig} {a : ℕ}
    (hw : ∀ K : PUnit → sProp 𝕄, wpE (defs₀ (F := F)) 𝒱₀ (c : Thread nD τ) none Set.univ w K = waitSpec (c : Thread nD τ) Set.univ sm a K)
    (hs : sm = e.sem) (ha : e.amt = a) (h1 : evsAt e.sem e.rnd = {e}) (l : List Ev) (hl : ∀ e' ∈ l, e.lvl < e'.lvl) :
    iprop(know X κ ∗ due c e ∗ owesL c l ∗ at' c e e.rnd)
      ⊢ iprop((iprop(owesL c l ∗ at' c e (e.rnd + 1) ∗ reached ER (own c e) (e.rnd + 1) ∗ pay X c e) -∗ runs c (k ⟨⟩) Q) -∗ runs c (.op w k) Q) := by
  subst hs; subst ha
  unfold owesL
  iintro ⟨#Hκ, Hc, ⟨%W, HO⟩, Hat⟩ Hk
  ihave #Hi := (know_own X κ e c) $$ Hκ
  have hd : (ringRd X).duties (own c e) e.rnd = {e} := (duties_tc X c _ _).trans h1
  have hm : know X κ ⊢ MayWait (c : Thread nD τ) e.sem e.ix (owed c l) := know_wait X κ c e.sem e.ix l e.lvl (Nat.le_of_eq (lvAt_ev e)) hl
  have hx : 0 + e.amt = (ringRd X).expect (own c e) e.rnd := by
    unfold Schedule.expect Schedule.amountOf; rw [hd, Finset.sum_singleton, Nat.zero_add]; rfl
  have hrule := Rounds.wp_wait_rest_token (defs := defs₀ (F := F)) (Q := Q) (k := k) 𝒱₀ ER (ringRd X) (c : Thread nD τ) none (κ := κ (own c e)) hw (Set.mem_univ _) e.ix (O := owed c l) (W := W) (R := e.rnd) (m := 0) (T := ∅)
      hx
  iapply hrule $$ [Hc HO Hat]
  · isplitr; · iexact Hi
    isplitl [Hc]; · iexact Hc
    isplitl [HO]; · iexact HO
    isplitr; · iapply hm; iexact Hκ
    iexact Hat
  iintro ⟨HO, Hat, #Hr, Hp⟩
  ihave Hp := (show bigSep ((ringRd X).duties (own c e) e.rnd \ ∅) (fun d => (ringRd X).payload (own c e) e.rnd d) ⊢ pay X c e from by
    rw [hd, Finset.sdiff_empty, bigSep_singleton]; exact .rfl) $$ Hp
  iapply Hk
  isplitl [HO]; · iexists _; iexact HO
  isplitl [Hat]; · iexact Hat
  isplitr; · iexact Hr
  iexact Hp

/-- TRANSFER: device `c` starts transfer `s` of chunk `q`, from its accumulator's chunk into the free slot of `nxt c`. -/
theorem wp_ship {Q : PUnit → sProp 𝕄} {k : PUnit → Code F PUnit} (s : Fin 3) (q : Fin 4) {sl : Fin 2} (hsl : sl = slotOf s) {n : Dev nD} (hn : n = nxt c) {σ₁ σ₂ : SemLoc sig}
    (h₁ : σ₁ = (Ev.snd s q).sem) (h₂ : σ₂ = (Ev.rcv s q).sem)
    {hsc : (slotM sl q : Memref sig (Dev.tc n : Thread nD τ).2.kind .vmem S256x2048 .f32).view.ref.isScScratch = false}
    {hsrc : (accM q).view.WordExact} {hdst : (slotM sl q).view.WordExact}
    {hsem : DmaTarget.Typed .vmem σ₂ (.remote (Dev.tc n : Thread nD τ) (slotM sl q : Memref sig .tc .vmem S256x2048 .f32) σ₁ hsc)} (l : List Ev) :
    iprop(know X κ ∗ has c (accM q) (X.acc s.val c q) ∗ some' (nxt c) (slotM sl q) ∗ owesL c (.rcv s q :: l)
        ∗ (tok c (.snd s q) ∗ reached ER (own c (.snd s q)) (useOf s)) ∗ (tok c (.rcv s q) ∗ reached ER ((Ev.rcv s q).cell c) (useOf s)))
      ⊢ iprop((iprop(due c (.snd s q) ∗ owesL c l) -∗ runs c (k ⟨⟩) Q)
        -∗ runs c (.op (.enqueueDma (accM q) (.remote (Dev.tc n : Thread nD τ) (slotM sl q) σ₁ hsc) σ₂ hsrc hdst hsem) k) Q) := by
  subst hsl; subst hn; subst h₁; subst h₂
  unfold owesL has some' has owns
  iintro ⟨#Hκ, ⟨%fs, %hfs, Ha⟩, ⟨%Y, %fd, %hfd, Hd⟩, ⟨%W, HO⟩, ⟨Ht, #Hr⟩, ⟨Ht', #Hr'⟩⟩ Hk
  ihave #Hi := (know_own X κ (.snd s q) c) $$ Hκ
  ihave #Hi' := (know_inv X κ (.rcv s q) c) $$ Hκ
  iapply (Rounds.wp_send_pointsTo 𝒱₀ ER (ringRd X) (c : Thread nD τ) none (κ₁ := κ (own c (.snd s q))) (κ₂ := κ ((Ev.rcv s q).cell c))
      (r₁ := useOf s) (r₂ := useOf s) (d₁ := .snd s q) (d₂ := .rcv s q) (fs := fs) (fd := fd)
      (mem_duties X (.snd s q) c) (mem_duties X (.rcv s q) c) (Ev.rcv s q).ix (Ev.snd s q).ix N (by unfold N; rfl) rfl rfl (owed c l) rfl (W := W)
      (by
        show _ ⊢ has c (accM q) (X.acc s.val c q)
        rw [← hfs]; exact owns_intro _ _ _ _)
      (by
        show _ ⊢ has (nxt c) (slotM (slotOf s) q) (X.acc s.val (prv (nxt c)) q)
        rw [prv_nxt]
        refine (owns_intro _ _ _ _).trans (Entails.of_eq ?_)
        rw [View.read_write_univ, hfs]; rfl)) $$ [Ha Hd HO Ht Ht']
  · isplitr; · iexact Hi
    isplitr; · iexact Hi'
    isplitl [Ha]; · iexact Ha
    isplitl [Hd]; · iexact Hd
    isplitl [HO]; · iexact HO
    isplitl [Ht]; · iexact Ht
    isplitr; · iexact Hr
    isplitl [Ht']; · iexact Ht'
    iexact Hr'
  iintro ⟨Hc, HO⟩
  iapply Hk
  isplitl [Hc]; · iexact Hc
  iexists W; iexact HO

end Rules

end Cert.RingProof

end
-- ==== Proof.Steps.lean ====
/-
One chunk's four stretches, each run once for any device and any chunk: what it starts from, what it leaves. First the
loads and stores of memrefs owned whole or by the slice.
-/
module

public import proofs.«01_k».proof.Proof.Proto

@[expose] public section

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Bool (Elt F) ℕ UU ℕ

/-- A program that has ended, and one program after another. -/
theorem runs_ret {Q : PUnit → sProp 𝕄} (c : Dev nD) : Q ⟨⟩ ⊢ runs c (.ret ⟨⟩) Q := by
  unfold runs; rw [wp_ret]; iintro H; imodintro; iexact H
theorem runs_bind {Q : PUnit → sProp 𝕄} (c : Dev nD) (p : Code F PUnit) (k : PUnit → Code F PUnit) :
    runs c p (fun x => runs c (k x) Q) ⊢ runs c (p >>= k) Q := by
  unfold runs; rw [wp_bind]

section Memory
variable (c : Dev nD) {s : Shape} {e : EltTy} {m : Memref sig .tc .vmem s e} {r : Rect s}

/-- A load through a rectangle of an owned memref gives its contents there. -/
theorem wp_get {Q : PUnit → sProp 𝕄} {hl : m.view.LoadsAt r.toLoadRect} {k : (r.shape.Idx → Elt F e) → Code F PUnit} (Y : s.Idx → Elt F e) :
    has c m Y ⊢ iprop((has c m Y -∗ runs c (k (fun j => Y (r.emb j))) Q) -∗ runs c (.op (.load m r.toLoadRect hl) k) Q) := by
  unfold has owns
  iintro ⟨%f, %hf, H⟩ Hk
  iapply (wp_load_rect 𝒱₀ (c : Thread nD τ) none Set.univ (m := m) (r := r) (hl := hl) (k := k) (S := m.view.set) (View.set_slice_subset _ _)) $$ H
  iintro H
  have h : (m.access r).read (Elt F) f = fun j => Y (r.emb j) := by subst hf; rfl
  rw [h]
  iapply Hk
  iexists f; isplitr; · ipureintro; exact hf
  iexact H

/-- A load of an owned slice gives its contents. -/
theorem wp_getSlice {Q : PUnit → sProp 𝕄} {hr : ∀ a, r.stride a = 1} {hl : m.view.LoadsAt r.toLoadRect} {k : (r.shape.Idx → Elt F e) → Code F PUnit} (Y : r.shape.Idx → Elt F e) :
    has c (m.slice r hr) Y ⊢ iprop((has c (m.slice r hr) Y -∗ runs c (k Y) Q) -∗ runs c (.op (.load m r.toLoadRect hl) k) Q) := by
  unfold has owns
  iintro ⟨%f, %hf, H⟩ Hk
  iapply (wp_load_rect 𝒱₀ (c : Thread nD τ) none Set.univ (m := m) (r := r) (hl := hl) (k := k) (S := (m.slice r hr).view.set) (Finset.Subset.refl _)) $$ H
  iintro H
  have h : (m.access r).read (Elt F) f = Y := hf
  rw [h]
  iapply Hk
  iexists f; isplitr; · ipureintro; exact hf
  iexact H

/-- A store to an owned slice leaves it at what was stored. -/
theorem wp_putSlice {Q : PUnit → sProp 𝕄} {hr : ∀ a, r.stride a = 1} {w : r.shape.Idx → Elt F e} {hx : (m.access r).Stores Finset.univ} {hm : Finset.univ = Finset.univ ∨ ∀ a, r.stride a = 1}
    {k : PUnit → Code F PUnit} (Y : r.shape.Idx → Elt F e) :
    has c (m.slice r hr) Y ⊢ iprop((has c (m.slice r hr) w -∗ runs c (k ⟨⟩) Q) -∗ runs c (.op (.store m r w Finset.univ hx hm) k) Q) := by
  unfold has owns
  iintro ⟨%f, %hf, H⟩ Hk
  iapply (wp_store 𝒱₀ (c : Thread nD τ) none Set.univ (m := m) (r := r) (w := w) (hx := hx) (hm := hm) (k := k) (S := (m.slice r hr).view.set) (Finset.Subset.refl _)) $$ H
  iintro H
  iapply Hk
  iexists ((m.access r).write (Elt F) f w Finset.univ)
  isplitr; · ipureintro; exact View.read_write_univ _ _
  iexact H

end Memory

/-- A chunk of a landing slot, with and without its unit axis, is the same memory at the same contents. -/
theorem slot_eq (c : Dev nD) (s : Fin 2) (q : Fin 4) (Y : FVec F S256x2048 .f32) : (has c (slotM s q) Y : sProp 𝕄) = has c (land3M s q) (lift Y) := by
  have n₁ : S256x2048.numel = S1x256x2048.numel := squeezes_S1x256x2048_S256x2048.numel_eq
  have h₀ : ∀ f, (slotM s q).view.read (Elt F) f = fun x => (land3M s q).view.read (Elt F) f (Shape.reshapeEquiv n₁ x) := fun f => rfl
  have hl : ∀ Z : FVec F S256x2048 .f32, lift Z = fun j => Z (Shape.reshapeEquiv n₁.symm j) := fun _ => rfl
  have hv : ∀ f, (slotM s q).view.read (Elt F) f = Y ↔ (land3M s q).view.read (Elt F) f = lift Y := fun f => by
    rw [h₀, hl]
    constructor
    · intro hY; subst hY; funext j
      exact congrArg _ ((Shape.reshapeEquiv_reshapeEquiv n₁ n₁.symm j).trans (Shape.reshapeEquiv_self _ j)).symm
    · intro hY; rw [hY]; funext j
      exact congrArg Y ((Shape.reshapeEquiv_reshapeEquiv n₁.symm n₁ j).trans (Shape.reshapeEquiv_self _ j))
  have hset : (slotM s q).view.set = (land3M s q).view.set := View.set_reshape _ _
  have h₁ : (has c (slotM s q) Y : sProp 𝕄) ⊢ has c (land3M s q) (lift Y) := by
    unfold has owns
    iintro ⟨%f, %hf, H⟩; iexists f
    isplitr; · ipureintro; exact (hv f).mp hf
    rw [hset]; iexact H
  have h₂ : (has c (land3M s q) (lift Y) : sProp 𝕄) ⊢ has c (slotM s q) Y := by
    unfold has owns
    iintro ⟨%f, %hf, H⟩; iexists f
    isplitr; · ipureintro; exact (hv f).mpr hf
    rw [hset]; iexact H
  exact equiv_iff.mp ⟨h₁, h₂⟩

/-! ## What a device holds of a chunk between the stretches -/

variable (X : Data F) (κ : GSem nD τ sig → ℕ) (c : Dev nD)

/-- The operands, held throughout. -/
def ins : sProp 𝕄 := iprop(has c oM (X.o c) ∗ has c wM (X.w c))

/-- What a device is launched with for chunk `q`: the tokens of its raises, the credits of its waits, its positions. -/
def kit (q : Fin 4) : sProp 𝕄 := iprop(
  (tok c (.snd 0 q) ∗ tok c (.snd 1 q) ∗ tok c (.snd 2 q) ∗ tok c (.rcv 0 q) ∗ tok c (.rcv 1 q) ∗ tok c (.rcv 2 q) ∗ tok c (.crd q))
  ∗ (due c (.rcv 0 q) ∗ due c (.rcv 1 q) ∗ due c (.rcv 2 q) ∗ due c (.crd q))
  ∗ (at' c (.snd 0 q) 0 ∗ at' c (.snd 1 q) 0 ∗ at' c (.rcv 0 q) 0 ∗ at' c (.rcv 1 q) 0 ∗ at' c (.crd q) 0)
  ∗ (reached ER (own c (.snd 0 q)) 0 ∗ reached ER (own c (.snd 1 q)) 0))
/-- After the greeting: the accumulator's chunk, the right neighbour's slots, all its kit; -/
def st0 (q : Fin 4) : sProp 𝕄 := iprop(
  some' c (accM q) ∗ (some' (nxt c) (slotM 0 q) ∗ reached ER ((Ev.rcv 0 q).cell c) 0) ∗ (some' (nxt c) (slotM 1 q) ∗ reached ER ((Ev.rcv 1 q).cell c) 0)
  ∗ reached ER ((Ev.crd q).cell c) 0 ∗ kit c q)
/-- with transfer 0 under way; -/
def st1 (q : Fin 4) : sProp 𝕄 := iprop(
  (some' (nxt c) (slotM 1 q) ∗ reached ER ((Ev.rcv 1 q).cell c) 0) ∗ reached ER ((Ev.crd q).cell c) 0
  ∗ (tok c (.snd 1 q) ∗ tok c (.snd 2 q) ∗ tok c (.rcv 1 q) ∗ tok c (.rcv 2 q) ∗ tok c (.crd q))
  ∗ (due c (.snd 0 q) ∗ due c (.rcv 0 q) ∗ due c (.rcv 1 q) ∗ due c (.rcv 2 q) ∗ due c (.crd q))
  ∗ (at' c (.snd 0 q) 0 ∗ at' c (.snd 1 q) 0 ∗ at' c (.rcv 0 q) 0 ∗ at' c (.rcv 1 q) 0 ∗ at' c (.crd q) 0)
  ∗ reached ER (own c (.snd 1 q)) 0)
/-- with transfer 1 under way, its own slot 0 handed back to the left neighbour; -/
def st2 (q : Fin 4) : sProp 𝕄 := iprop(
  (tok c (.snd 2 q) ∗ tok c (.rcv 2 q))
  ∗ (due c (.snd 1 q) ∗ due c (.rcv 1 q) ∗ due c (.rcv 2 q) ∗ due c (.crd q))
  ∗ (at' c (.snd 2 q) 1 ∗ at' c (.snd 1 q) 0 ∗ at' c (.rcv 2 q) 1 ∗ at' c (.rcv 1 q) 0 ∗ at' c (.crd q) 0)
  ∗ reached ER (own c (.snd 2 q)) 1)
/-- with transfer 2 under way; -/
def st3 (q : Fin 4) : sProp 𝕄 := iprop(
  some' c (slotM 1 q) ∗ (due c (.snd 2 q) ∗ due c (.rcv 2 q))
  ∗ (at' c (.snd 2 q) 1 ∗ at' c (.snd 1 q) 1 ∗ at' c (.rcv 2 q) 1 ∗ at' c (.rcv 1 q) 1 ∗ at' c (.crd q) 1))
/-- and at the end: the chunk's sum, its own slots, all its semaphores past their last round. -/
def st4 (q : Fin 4) : sProp 𝕄 := iprop(
  has c (accM q) (X.acc 3 c q) ∗ (some' c (slotM 0 q) ∗ some' c (slotM 1 q))
  ∗ (at' c (.snd 2 q) 2 ∗ at' c (.snd 1 q) 1 ∗ at' c (.rcv 2 q) 2 ∗ at' c (.rcv 1 q) 1 ∗ at' c (.crd q) 1))

/-! ## The stretches -/

section Stretches
variable {X κ c}

/-- FILL: the first partial product of a chunk. -/
theorem runs_fill {Q : PUnit → sProp 𝕄} (o : Off) (q : Fin 4) :
    iprop(ins X c ∗ some' c (accM q)) ⊢ iprop((iprop(ins X c ∗ has c (accM q) (k0_pay1 (X.rows c o) (X.wts c))) -∗ Q ⟨⟩) -∗ runs c (fill o q) Q) := by
  unfold fill ins some'
  simp only [Prog.lift, Prog.bind_op, Prog.bind_ret, Prog.pure_eq_ret]
  iintro ⟨⟨Ho, Hw⟩, ⟨%Y, Ha⟩⟩ Hk
  iapply (wp_get c (X.o c)) $$ Ho
  iintro Ho
  iapply (wp_get c (X.w c)) $$ Hw
  iintro Hw
  iapply (wp_getSlice c Y) $$ Ha
  iintro Ha
  iapply (wp_putSlice c Y) $$ Ha
  iintro Ha
  iapply (runs_ret c)
  iapply Hk
  isplitl [Ho Hw]
  · isplitl [Ho]; · iexact Ho
    iexact Hw
  iexact Ha

/-- FOLD: the next partial product of a chunk plus the chunk that landed. -/
theorem runs_fold {Q : PUnit → sProp 𝕄} (o : Off) (s : Fin 2) (q : Fin 4) (Z Y : FVec F S256x2048 .f32) :
    iprop(ins X c ∗ has c (accM q) Y ∗ has c (slotM s q) Z)
      ⊢ iprop((iprop(ins X c ∗ has c (accM q) (k0_pay7 (X.rows c o) (X.wts c) (lift Z)) ∗ some' c (slotM s q)) -∗ Q ⟨⟩) -∗ runs c (fold o s q) Q) := by
  rw [slot_eq]
  unfold fold ins
  simp only [Prog.lift, Prog.bind_op, Prog.bind_ret, Prog.pure_eq_ret]
  iintro ⟨⟨Ho, Hw⟩, Ha, Hz⟩ Hk
  iapply (wp_get c (X.o c)) $$ Ho
  iintro Ho
  iapply (wp_get c (X.w c)) $$ Hw
  iintro Hw
  iapply (wp_getSlice c (lift Z)) $$ Hz
  iintro Hz
  iapply (wp_getSlice c Y) $$ Ha
  iintro Ha
  iapply (wp_putSlice c Y) $$ Ha
  iintro Ha
  iapply (runs_ret c)
  iapply Hk
  isplitl [Ho Hw]
  · isplitl [Ho]; · iexact Ho
    iexact Hw
  isplitl [Ha]; · iexact Ha
  iexists Z; rw [slot_eq]; iexact Hz

/-- OPENING of a chunk. -/
theorem runs_opening {Q : PUnit → sProp 𝕄} (q : Fin 4) {n : Dev nD} (hn : n = nxt c) (l : List Ev) :
    iprop(know X κ ∗ ins X c ∗ owesL c (.rcv 0 q :: l) ∗ st0 c q)
      ⊢ iprop((iprop(ins X c ∗ owesL c l ∗ st1 c q) -∗ Q ⟨⟩) -∗ runs c (opening (offO c q) n q) Q) := by
  unfold opening st0 st1 kit
  iintro ⟨#Hκ, Hi, HO, Ha, ⟨Hs0, #Hm0⟩, Hs1, #Hmc, ⟨Ts0, Ts1, Ts2, Tr0, Tr1, Tr2, Tc⟩, ⟨Dr0, Dr1, Dr2, Dc⟩, Hat, ⟨#Hn0, #Hn1⟩⟩ Hk
  iapply (runs_bind c)
  iapply (runs_fill (X := X) (offO c q) q) $$ [Hi Ha]
  · isplitl [Hi]; · iexact Hi
    iexact Ha
  iintro ⟨Hi, Ha⟩
  iapply (wp_ship X κ c 0 q rfl hn (sndS_eq 0 q) (rcvS_eq 0 q) l) $$ [Ha HO Hs0 Ts0 Tr0]
  · isplitr; · iexact Hκ
    isplitl [Ha]; · iexact Ha
    isplitl [Hs0]; · iexact Hs0
    isplitl [HO]; · iexact HO
    isplitl [Ts0]
    · isplitl [Ts0]; · iexact Ts0
      iexact Hn0
    · isplitl [Tr0]; · iexact Tr0
      iexact Hm0
  iintro ⟨Ds0, HO⟩
  iapply (runs_ret c)
  iapply Hk
  isplitl [Hi]; · iexact Hi
  isplitl [HO]; · iexact HO
  isplitl [Hs1]; · iexact Hs1
  isplitr; · iexact Hmc
  isplitl [Ts1 Ts2 Tr1 Tr2 Tc]
  · isplitl [Ts1]; · iexact Ts1
    isplitl [Ts2]; · iexact Ts2
    isplitl [Tr1]; · iexact Tr1
    isplitl [Tr2]; · iexact Tr2
    iexact Tc
  isplitl [Ds0 Dr0 Dr1 Dr2 Dc]
  · isplitl [Ds0]; · iexact Ds0
    isplitl [Dr0]; · iexact Dr0
    isplitl [Dr1]; · iexact Dr1
    isplitl [Dr2]; · iexact Dr2
    iexact Dc
  isplitl [Hat]; · iexact Hat
  iexact Hn1

/-- The credit of any chunk's transfer, read at either end, is the one amount. -/
theorem credit_acc (q : Fin 4) : N = (accM q).view.dmaCredit := by unfold N; rfl
theorem credit_slot (s : Fin 2) (q : Fin 4) : N = (slotM s q).view.dmaCredit := by unfold N; rfl

/-- WAIT for transfer `s`'s departure: the accumulator's chunk comes back; -/
theorem runs_waitSnd {Q : PUnit → sProp 𝕄} (s : Fin 3) (q : Fin 4) {sl : Fin 2} (hsl : sl = slotOf s) (l : List Ev) (hl : ∀ e ∈ l, 0 < e.lvl) :
    iprop(know X κ ∗ due c (.snd s q) ∗ owesL c l ∗ at' c (.snd s q) (useOf s))
      ⊢ iprop((iprop(owesL c l ∗ at' c (.snd s q) (useOf s + 1) ∗ reached ER (own c (.snd s q)) (useOf s + 1) ∗ has c (accM q) (X.acc s.val c q)) -∗ Q ⟨⟩)
        -∗ runs c (waitSnd sl q) Q) := by
  subst hsl
  iintro ⟨#Hκ, HD, HO, HP⟩ Hk
  iapply (wp_await X κ c (.snd s q) (wpE_waitDma2_eq 𝒱₀ (c : Thread nD τ) none Set.univ) (sndS_eq s q) (credit_acc q) (evsAt_snd s q) l hl) $$ [HD HO HP]
  · isplitr; · iexact Hκ
    isplitl [HD]; · iexact HD
    isplitl [HO]; · iexact HO
    iexact HP
  iintro H
  iapply (runs_ret c)
  iapply Hk; iexact H
/-- for its arrival: the own slot comes with what the left neighbour sent. -/
theorem runs_waitRcv {Q : PUnit → sProp 𝕄} (s : Fin 3) (q : Fin 4) {sl : Fin 2} (hsl : sl = slotOf s) (l : List Ev) (hl : ∀ e ∈ l, (Ev.rcv s q).lvl < e.lvl) :
    iprop(know X κ ∗ due c (.rcv s q) ∗ owesL c l ∗ at' c (.rcv s q) (useOf s))
      ⊢ iprop((iprop(owesL c l ∗ at' c (.rcv s q) (useOf s + 1) ∗ reached ER (own c (.rcv s q)) (useOf s + 1) ∗ has c (slotM sl q) (X.acc s.val (prv c) q)) -∗ Q ⟨⟩)
        -∗ runs c (waitRcv sl q) Q) := by
  subst hsl
  iintro ⟨#Hκ, HD, HO, HP⟩ Hk
  iapply (wp_await X κ c (.rcv s q) (wpE_waitDma2_eq 𝒱₀ (c : Thread nD τ) none Set.univ) (rcvS_eq s q) (credit_slot _ q) (evsAt_rcv s q) l hl) $$ [HD HO HP]
  · isplitr; · iexact Hκ
    isplitl [HD]; · iexact HD
    isplitl [HO]; · iexact HO
    iexact HP
  iintro H
  iapply (runs_ret c)
  iapply Hk; iexact H

/-- RECEIVE: both waits of transfer `s`, then the fold, gives the chunk's next running sum. -/
theorem runs_receive {Q : PUnit → sProp 𝕄} (s : Fin 3) (q : Fin 4) {sl : Fin 2} (hsl : sl = slotOf s) (l : List Ev) (hl : ∀ e ∈ l, (Ev.rcv s q).lvl < e.lvl) :
    iprop(know X κ ∗ ins X c ∗ owesL c l ∗ (due c (.snd s q) ∗ due c (.rcv s q)) ∗ (at' c (.snd s q) (useOf s) ∗ at' c (.rcv s q) (useOf s)))
      ⊢ iprop((iprop(ins X c ∗ owesL c l ∗ has c (accM q) (X.acc (s.val + 1) c q) ∗ some' c (slotM sl q)
          ∗ (at' c (.snd s q) (useOf s + 1) ∗ reached ER (own c (.snd s q)) (useOf s + 1)) ∗ (at' c (.rcv s q) (useOf s + 1) ∗ reached ER (own c (.rcv s q)) (useOf s + 1))) -∗ Q ⟨⟩)
        -∗ runs c (waitSnd sl q >>= fun _ => waitRcv sl q >>= fun _ => fold (offS c s q) sl q) Q) := by
  iintro ⟨#Hκ, Hi, HO, ⟨Ds, Dr⟩, ⟨Ps, Pr⟩⟩ Hk
  iapply (runs_bind c)
  iapply (runs_waitSnd (X := X) (κ := κ) s q hsl l (fun e he => Nat.lt_of_le_of_lt (Nat.zero_le _) (hl e he))) $$ [HO Ds Ps]
  · isplitr; · iexact Hκ
    isplitl [Ds]; · iexact Ds
    isplitl [HO]; · iexact HO
    iexact Ps
  iintro ⟨HO, Ps, #Rs, Ha⟩
  iapply (runs_bind c)
  iapply (runs_waitRcv (X := X) (κ := κ) s q hsl l hl) $$ [HO Dr Pr]
  · isplitr; · iexact Hκ
    isplitl [Dr]; · iexact Dr
    isplitl [HO]; · iexact HO
    iexact Pr
  iintro ⟨HO, Pr, #Rr, Hz⟩
  iapply (runs_fold (X := X) (offS c s q) sl q (X.acc s.val (prv c) q) (X.acc s.val c q)) $$ [Hi Ha Hz]
  · isplitl [Hi]; · iexact Hi
    isplitl [Ha]; · iexact Ha
    iexact Hz
  iintro ⟨Hi, Ha, Hz⟩
  have hs : Fin.ofNat 3 s.val = s := by ext; exact Nat.mod_eq_of_lt s.isLt
  ihave Ha := (show (has c (accM q) (k0_pay7 (X.rows c (offS c s q)) (X.wts c) (lift (X.acc s.val (prv c) q))) : sProp 𝕄) ⊢ has c (accM q) (X.acc (s.val + 1) c q) from by
    rw [Data.acc, hs]) $$ Ha
  iapply Hk
  isplitl [Hi]; · iexact Hi
  isplitl [HO]; · iexact HO
  isplitl [Ha]; · iexact Ha
  isplitl [Hz]; · iexact Hz
  isplitl [Ps]
  · isplitl [Ps]; · iexact Ps
    iexact Rs
  isplitl [Pr]; · iexact Pr
  iexact Rr

/-- What the credit to the left neighbour hands over: the own slot 0, its semaphore past round 0. -/
theorem pay_credit (q : Fin 4) : iprop(some' c (slotM 0 q) ∗ reached ER (own c (.rcv 2 q)) 1) ⊢ pay X ((Ev.crd q).dev c) (.crd q) := by
  have h : pay X ((Ev.crd q).dev c) (.crd q) = iprop(some' (nxt (prv c)) (slotM 0 q) ∗ reached ER (own (nxt (prv c)) (.rcv 2 q)) 1) := rfl
  rw [h, nxt_prv]

/-- STEP A of a chunk. -/
theorem runs_stepA {Q : PUnit → sProp 𝕄} (q : Fin 4) {p n : Dev nD} (hp : p = prv c) (hn : n = nxt c) (l : List Ev) (hl : ∀ e ∈ l, 2 < e.lvl) :
    iprop(know X κ ∗ ins X c ∗ owesL c (.crd q :: .rcv 1 q :: l) ∗ st1 c q)
      ⊢ iprop((iprop(ins X c ∗ owesL c l ∗ st2 c q) -∗ Q ⟨⟩) -∗ runs c (stepA (offS c 0 q) p n q) Q) := by
  have hA : stepA (F := F) (offS c 0 q) p n q
      = (waitSnd 0 q >>= fun _ => waitRcv 0 q >>= fun _ => fold (offS c 0 q) 0 q) >>= fun _ => semSignalWord p (crdS q) 1#32 >>= fun _ => sendAcc n 1 q := rfl
  rw [hA]
  unfold st1 st2
  iintro ⟨#Hκ, Hi, HO, ⟨Hs1, #Hm1⟩, #Hmc, ⟨Ts1, Ts2, Tr1, Tr2, Tc⟩, ⟨Ds0, Dr0, Dr1, Dr2, Dc⟩, ⟨Ps0, Ps1, Pr0, Pr1, Pc⟩, #Hn1⟩ Hk
  iapply (runs_bind c)
  iapply (runs_receive (X := X) (κ := κ) 0 q rfl (.crd q :: .rcv 1 q :: l) (by
    intro e he
    simp only [List.mem_cons] at he
    rcases he with rfl | rfl | he
    · show (2 : ℕ) < 3; omega
    · show (2 : ℕ) < 4; omega
    · exact hl e he)) $$ [Hi HO Ds0 Dr0 Ps0 Pr0]
  · isplitr; · iexact Hκ
    isplitl [Hi]; · iexact Hi
    isplitl [HO]; · iexact HO
    isplitl [Ds0 Dr0]
    · isplitl [Ds0]; · iexact Ds0
      iexact Dr0
    · isplitl [Ps0]; · iexact Ps0
      iexact Pr0
  iintro ⟨Hi, HO, Ha, Hz, ⟨Ps0, #Rs0⟩, ⟨Pr0, #Rr0⟩⟩
  simp only [semSignalWord, Prog.lift, Prog.bind_op, Prog.bind_ret]
  iapply (wp_tell X κ c (.crd q) (crdS_eq q) hp rfl (.rcv 1 q :: l)) $$ [HO Tc Hz]
  · isplitr; · iexact Hκ
    isplitl [HO]; · iexact HO
    isplitl [Tc]; · iexact Tc
    isplitl [Hz]
    · iapply (pay_credit (X := X) (c := c) q)
      isplitl [Hz]; · iexact Hz
      iexact Rr0
    iexact Hmc
  iintro HO
  iapply (wp_ship X κ c 1 q rfl hn (sndS_eq 1 q) (rcvS_eq 1 q) l) $$ [Ha HO Hs1 Ts1 Tr1]
  · isplitr; · iexact Hκ
    isplitl [Ha]; · iexact Ha
    isplitl [Hs1]; · iexact Hs1
    isplitl [HO]; · iexact HO
    isplitl [Ts1]
    · isplitl [Ts1]; · iexact Ts1
      iexact Hn1
    · isplitl [Tr1]; · iexact Tr1
      iexact Hm1
  iintro ⟨Ds1, HO⟩
  iapply (runs_ret c)
  iapply Hk
  isplitl [Hi]; · iexact Hi
  isplitl [HO]; · iexact HO
  isplitl [Ts2 Tr2]
  · isplitl [Ts2]; · iexact Ts2
    iexact Tr2
  isplitl [Ds1 Dr1 Dr2 Dc]
  · isplitl [Ds1]; · iexact Ds1
    isplitl [Dr1]; · iexact Dr1
    isplitl [Dr2]; · iexact Dr2
    iexact Dc
  isplitl [Ps0 Ps1 Pr0 Pr1 Pc]
  · isplitl [Ps0]; · iexact Ps0
    isplitl [Ps1]; · iexact Ps1
    isplitl [Pr0]; · iexact Pr0
    isplitl [Pr1]; · iexact Pr1
    iexact Pc
  iexact Rs0

/-- STEP B of a chunk. -/
theorem runs_stepB {Q : PUnit → sProp 𝕄} (q : Fin 4) {n : Dev nD} (hn : n = nxt c) (l : List Ev) (hl : ∀ e ∈ l, 4 < e.lvl) :
    iprop(know X κ ∗ ins X c ∗ owesL c (.rcv 2 q :: l) ∗ st2 c q)
      ⊢ iprop((iprop(ins X c ∗ owesL c l ∗ st3 c q) -∗ Q ⟨⟩) -∗ runs c (stepB (offS c 1 q) n q) Q) := by
  have hB : stepB (F := F) (offS c 1 q) n q
      = (waitSnd 1 q >>= fun _ => waitRcv 1 q >>= fun _ => fold (offS c 1 q) 1 q) >>= fun _ => semWaitWord (crdS q) 1#32 >>= fun _ => sendAcc n 0 q := rfl
  have hL : ∀ e ∈ (Ev.rcv 2 q :: l), 4 < e.lvl := by
    intro e he
    simp only [List.mem_cons] at he
    rcases he with rfl | he
    · show (4 : ℕ) < 6; omega
    · exact hl e he
  rw [hB]
  unfold st2 st3
  iintro ⟨#Hκ, Hi, HO, ⟨Ts2, Tr2⟩, ⟨Ds1, Dr1, Dr2, Dc⟩, ⟨Ps0, Ps1, Pr0, Pr1, Pc⟩, #Hn2⟩ Hk
  iapply (runs_bind c)
  iapply (runs_receive (X := X) (κ := κ) 1 q rfl (.rcv 2 q :: l) hL) $$ [Hi HO Ds1 Dr1 Ps1 Pr1]
  · isplitr; · iexact Hκ
    isplitl [Hi]; · iexact Hi
    isplitl [HO]; · iexact HO
    isplitl [Ds1 Dr1]
    · isplitl [Ds1]; · iexact Ds1
      iexact Dr1
    · isplitl [Ps1]; · iexact Ps1
      iexact Pr1
  iintro ⟨Hi, HO, Ha, Hz, ⟨Ps1, -⟩, ⟨Pr1, -⟩⟩
  simp only [semWaitWord, Prog.lift, Prog.bind_op, Prog.bind_ret]
  iapply (wp_await X κ c (.crd q) (wpE_semWait_eq 𝒱₀ (c : Thread nD τ) none Set.univ) (crdS_eq q) rfl (evsAt_crd q) (.rcv 2 q :: l)
    (fun e he => Nat.lt_trans (by show (3 : ℕ) < 4; omega) (hL e he))) $$ [HO Dc Pc]
  · isplitr; · iexact Hκ
    isplitl [Dc]; · iexact Dc
    isplitl [HO]; · iexact HO
    iexact Pc
  iintro ⟨HO, Pc, -, Hp⟩
  ihave Hp := (show pay X c (.crd q) ⊢ iprop(some' (nxt c) (slotM 0 q) ∗ reached ER ((Ev.rcv 2 q).cell c) 1) from .rfl) $$ Hp
  icases Hp with ⟨Hs0, #Hm2⟩
  iapply (wp_ship X κ c 2 q rfl hn (sndS_eq 2 q) (rcvS_eq 2 q) l) $$ [Ha HO Hs0 Ts2 Tr2]
  · isplitr; · iexact Hκ
    isplitl [Ha]; · iexact Ha
    isplitl [Hs0]; · iexact Hs0
    isplitl [HO]; · iexact HO
    isplitl [Ts2]
    · isplitl [Ts2]; · iexact Ts2
      iexact Hn2
    · isplitl [Tr2]; · iexact Tr2
      iexact Hm2
  iintro ⟨Ds2, HO⟩
  iapply (runs_ret c)
  iapply Hk
  isplitl [Hi]; · iexact Hi
  isplitl [HO]; · iexact HO
  isplitl [Hz]; · iexact Hz
  isplitl [Ds2 Dr2]
  · isplitl [Ds2]; · iexact Ds2
    iexact Dr2
  isplitl [Ps0]; · iexact Ps0
  isplitl [Ps1]; · iexact Ps1
  isplitl [Pr0]; · iexact Pr0
  isplitl [Pr1]; · iexact Pr1
  iexact Pc

/-- STEP C of a chunk. -/
theorem runs_stepC {Q : PUnit → sProp 𝕄} (q : Fin 4) :
    iprop(know X κ ∗ ins X c ∗ owesL c [] ∗ st3 c q)
      ⊢ iprop((iprop(ins X c ∗ owesL c [] ∗ st4 X c q) -∗ Q ⟨⟩) -∗ runs c (stepC (offS c 2 q) q) Q) := by
  have hC : stepC (F := F) (offS c 2 q) q = (waitSnd 0 q >>= fun _ => waitRcv 0 q >>= fun _ => fold (offS c 2 q) 0 q) := rfl
  rw [hC]
  unfold st3 st4
  iintro ⟨#Hκ, Hi, HO, Hs1, HD, ⟨Ps0, Ps1, Pr0, Pr1, Pc⟩⟩ Hk
  iapply (runs_receive (X := X) (κ := κ) 2 q rfl [] (by intro e he; cases he)) $$ [Hi HO HD Ps0 Pr0]
  · isplitr; · iexact Hκ
    isplitl [Hi]; · iexact Hi
    isplitl [HO]; · iexact HO
    isplitl [HD]; · iexact HD
    isplitl [Ps0]; · iexact Ps0
    iexact Pr0
  iintro ⟨Hi, HO, Ha, Hz, ⟨Ps0, -⟩, ⟨Pr0, -⟩⟩
  iapply Hk
  isplitl [Hi]; · iexact Hi
  isplitl [HO]; · iexact HO
  isplitl [Ha]; · iexact Ha
  isplitl [Hz Hs1]
  · isplitl [Hz]; · iexact Hz
    iexact Hs1
  isplitl [Ps0]; · iexact Ps0
  isplitl [Ps1]; · iexact Ps1
  isplitl [Pr0]; · iexact Pr0
  isplitl [Pr1]; · iexact Pr1
  iexact Pc

end Stretches

end Cert.RingProof

end
-- ==== Proof.Body.lean ====
/-
The whole body of one device: the landing buffer and the accumulator cut into chunks, the greeting, the four stretches over
the four chunks, the copy into the result.
-/
module

public import proofs.«01_k».proof.Proof.Steps

@[expose] public section

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Bool (Elt F) ℕ UU ℕ

/-! ## The chunks of the two buffers -/

theorem accR_disjoint (q q' : Fin 4) (h : q ≠ q') : Disjoint (accR q).set (accR q').set := by
  refine Rect.disjoint_of_axis _ _ 0 fun j₁ h₁ j₂ h₂ => ?_
  have h₁ : j₁ < 256 := h₁
  have h₂ : j₂ < 256 := h₂
  show 256 * q.val + 1 * j₁ ≠ 256 * q'.val + 1 * j₂
  have := Fin.val_ne_of_ne h
  omega
theorem accR_cover : (Finset.univ : Finset (Fin 4)).biUnion (fun q => (accR q).set) = Finset.univ := by
  refine Finset.eq_univ_of_forall fun i => Finset.mem_biUnion.mpr ?_
  have h0 : (i 0).val < 1024 := (i 0).isLt
  have h1 : (i 1).val < 2048 := (i 1).isLt
  refine ⟨⟨(i 0).val / 256, by omega⟩, Finset.mem_univ _, Rect.mem_set_unit.mpr fun a => ?_⟩
  fin_cases a
  · show 256 * ((i 0).val / 256) ≤ (i 0).val ∧ (i 0).val < 256 * ((i 0).val / 256) + 256; omega
  · show 0 ≤ (i 1).val ∧ (i 1).val < 0 + 2048; omega

/-- The chunks of the landing buffer, slot and chunk. -/
abbrev landR' (x : Fin 2 × Fin 4) : Rect S2x1024x2048 := landR x.1 x.2
theorem landR_disjoint (x y : Fin 2 × Fin 4) (h : x ≠ y) : Disjoint (landR' x).set (landR' y).set := by
  by_cases hs : x.1 = y.1
  · have hq : x.2 ≠ y.2 := fun e => h (Prod.ext hs e)
    refine Rect.disjoint_of_axis _ _ 1 fun j₁ h₁ j₂ h₂ => ?_
    have h₁ : j₁ < 256 := h₁
    have h₂ : j₂ < 256 := h₂
    show 256 * x.2.val + 1 * j₁ ≠ 256 * y.2.val + 1 * j₂
    have := Fin.val_ne_of_ne hq
    omega
  · refine Rect.disjoint_of_axis _ _ 0 fun j₁ h₁ j₂ h₂ => ?_
    have h₁ : j₁ < 1 := h₁
    have h₂ : j₂ < 1 := h₂
    show x.1.val + 1 * j₁ ≠ y.1.val + 1 * j₂
    have := Fin.val_ne_of_ne hs
    omega
theorem landR_cover : (Finset.univ : Finset (Fin 2 × Fin 4)).biUnion (fun x => (landR' x).set) = Finset.univ := by
  refine Finset.eq_univ_of_forall fun i => Finset.mem_biUnion.mpr ?_
  have h0 : (i 0).val < 2 := (i 0).isLt
  have h1 : (i 1).val < 1024 := (i 1).isLt
  have h2 : (i 2).val < 2048 := (i 2).isLt
  refine ⟨(⟨(i 0).val, h0⟩, ⟨(i 1).val / 256, by omega⟩), Finset.mem_univ _, Rect.mem_set_unit.mpr fun a => ?_⟩
  fin_cases a
  · show (i 0).val ≤ (i 0).val ∧ (i 0).val < (i 0).val + 1; omega
  · show 256 * ((i 1).val / 256) ≤ (i 1).val ∧ (i 1).val < 256 * ((i 1).val / 256) + 256; omega
  · show 0 ≤ (i 2).val ∧ (i 2).val < 0 + 2048; omega

variable (X : Data F) (κ : GSem nD τ sig → ℕ) (c : Dev nD)

/-- Where an element of the accumulator lies within its chunk. -/
def within (i : S1024x2048.Idx) : S256x2048.Idx := fun a =>
  ⟨(![(i 0).val % 256, (i 1).val] : Fin 2 → ℕ) a, by
    have h1 : (i 1).val < 2048 := (i 1).isLt
    fin_cases a
    · exact Nat.mod_lt _ (by decide : 0 < 256)
    · exact h1⟩
/-- The accumulator at the end: each chunk at its sum over the ring; and the result made of it. -/
def Data.sum : FVec F S1024x2048 .f32 := fun i => X.acc 3 c ⟨(i 0).val / 256, by have h : (i 0).val < 1024 := (i 0).isLt; omega⟩ (within i)
def Data.out : FVec F S4x256x2048 .f32 := k0_pay22 (X.sum c)

theorem sum_emb (q : Fin 4) : (fun j => X.sum c ((accR q).emb j)) = X.acc 3 c q := by
  funext j
  have h0 : (j 0).val < 256 := (j 0).isLt
  have e0 : ((accR q).emb j 0).val = 256 * q.val + 1 * (j 0).val := rfl
  have e1 : ((accR q).emb j 1).val = 0 + 1 * (j 1).val := rfl
  unfold Data.sum
  have hq : (⟨((accR q).emb j 0).val / 256, by have h : ((accR q).emb j 0).val < 1024 := ((accR q).emb j 0).isLt; omega⟩ : Fin 4) = q := by
    ext; show ((accR q).emb j 0).val / 256 = q.val; rw [e0]; omega
  have hj : within ((accR q).emb j) = j := by
    funext a; ext
    fin_cases a
    · show ((accR q).emb j 0).val % 256 = (j 0).val; rw [e0]; omega
    · show ((accR q).emb j 1).val = (j 1).val; rw [e1]; omega
  rw [hq, hj]

/-- A memref at any contents is each of a disjoint covering family of slices at any contents, and back. -/
theorem cut_any {s : Shape} {e : EltTy} {T : Type} [Fintype T] [DecidableEq T] (m : Memref sig .tc .vmem s e) (r : T → Rect s) (hr : ∀ t a, (r t).stride a = 1)
    (hd : ∀ t t', t ≠ t' → Disjoint (r t).set (r t').set) (hcov : (Finset.univ : Finset T).biUnion (fun t => (r t).set) = Finset.univ) :
    (some' c m : sProp 𝕄) ⊢ bigSep Finset.univ fun t => some' c (m.slice (r t) (hr t)) := by
  iintro ⟨%Y, H⟩
  ihave H := (owns_rects (c : Thread nD τ) m fullShare r hr hd hcov Y) $$ H
  have h (t : T) : (has c (m.slice (r t) (hr t)) (fun j => Y ((r t).emb j)) : sProp 𝕄) ⊢ some' c (m.slice (r t) (hr t)) := by
    iintro H; iexists _; iexact H
  ihave H := (show (bigSep Finset.univ fun t => (has c (m.slice (r t) (hr t)) (fun j => Y ((r t).emb j)) : sProp 𝕄))
    ⊢ bigSep Finset.univ fun t => some' c (m.slice (r t) (hr t)) from bigSep_mono fun t _ => h t) $$ H
  iexact H
theorem join_any {s : Shape} {e : EltTy} {T : Type} [Fintype T] [DecidableEq T] (m : Memref sig .tc .vmem s e) (r : T → Rect s) (hr : ∀ t a, (r t).stride a = 1)
    (hd : ∀ t t', t ≠ t' → Disjoint (r t).set (r t').set) (hcov : (Finset.univ : Finset T).biUnion (fun t => (r t).set) = Finset.univ) :
    (bigSep Finset.univ fun t => some' c (m.slice (r t) (hr t)) : sProp 𝕄) ⊢ some' c m := by
  classical
  have hx (Y : (t : T) → (r t).shape.Idx → Elt F e) : ∃ X : s.Idx → Elt F e, ∀ t, (fun j => X ((r t).emb j)) = Y t := by
    refine ⟨fun i => if h : ∃ x : (t : T) × (r t).shape.Idx, (r x.1).emb x.2 = i then Y h.choose.1 h.choose.2 else Classical.arbitrary _, fun t => funext fun j => ?_⟩
    have h : ∃ x : (t : T) × (r t).shape.Idx, (r x.1).emb x.2 = (r t).emb j := ⟨⟨t, j⟩, rfl⟩
    refine (dif_pos h).trans ?_
    obtain ⟨t', j', hc, he⟩ : ∃ t' j', h.choose = ⟨t', j'⟩ ∧ (r t').emb j' = (r t).emb j := ⟨h.choose.1, h.choose.2, rfl, h.choose_spec⟩
    rw [hc]
    by_cases ht : t' = t
    · subst ht; rw [(r t').emb.injective he]
    · refine absurd ?_ (Finset.disjoint_left.mp (hd t' t ht) ((r t').map_emb_univ ▸ Finset.mem_map_of_mem _ (Finset.mem_univ j')))
      rw [he, ← (r t).map_emb_univ]; exact Finset.mem_map_of_mem _ (Finset.mem_univ j)
  refine (bigSep_exists_pi (Y := fun t : T => (r t).shape.Idx → Elt F e) Finset.univ fun t Z => (has c (m.slice (r t) (hr t)) Z : sProp 𝕄)).trans ?_
  iintro ⟨%Y, H⟩
  obtain ⟨X, hX⟩ := hx Y
  iexists X
  iapply (owns_of_rects (c : Thread nD τ) m fullShare r hr hd hcov X)
  simp only [hX]
  iexact H

theorem slot_any (s : Fin 2) (q : Fin 4) : (some' c (slotM s q) : sProp 𝕄) = some' c (land3M s q) := by
  have n₁ : S256x2048.numel = S1x256x2048.numel := squeezes_S1x256x2048_S256x2048.numel_eq
  have hl (Z : S1x256x2048.Idx → Elt F .f32) : lift (fun x => Z (Shape.reshapeEquiv n₁ x)) = Z := by
    have hl : ∀ Z : FVec F S256x2048 .f32, lift Z = fun j => Z (Shape.reshapeEquiv n₁.symm j) := fun _ => rfl
    rw [hl]; funext j
    exact congrArg Z ((Shape.reshapeEquiv_reshapeEquiv n₁ n₁.symm j).trans (Shape.reshapeEquiv_self _ j))
  have h₁ : (some' c (slotM s q) : sProp 𝕄) ⊢ some' c (land3M s q) := by
    iintro ⟨%Y, H⟩
    ihave H := (Entails.of_eq (slot_eq c s q Y)) $$ H
    iexists _; iexact H
  have h₂ : (some' c (land3M s q) : sProp 𝕄) ⊢ some' c (slotM s q) := by
    iintro ⟨%Z, H⟩
    iexists (fun x => Z (Shape.reshapeEquiv n₁ x))
    rw [slot_eq, hl]; iexact H
  exact BI.equiv_iff.mp ⟨h₁, h₂⟩

/-- A device's landing slots of all chunks, at any contents. -/
abbrev slots : sProp 𝕄 := bigSep Finset.univ fun q : Fin 4 => iprop(some' c (slotM 0 q) ∗ some' c (slotM 1 q))

theorem slots_eq : (slots c : sProp 𝕄) = bigSep Finset.univ fun x : Fin 2 × Fin 4 => some' c (land3M x.1 x.2) := by
  unfold slots
  rw [bigSep_univ_prod, BI.bigSep_fin_two, bigSep_sep']
  simp only [slot_any]
  rfl
theorem land_cut : (some' c landM : sProp 𝕄) ⊢ slots c := by
  rw [slots_eq]; exact cut_any c landM landR' (fun _ _ => rfl) landR_disjoint landR_cover
theorem land_join : (slots c : sProp 𝕄) ⊢ some' c landM := by
  rw [slots_eq]; exact join_any c landM landR' (fun _ _ => rfl) landR_disjoint landR_cover
/-- The accumulator cut into its chunks; and whole again at the sums. -/
theorem sum_cut : (some' c sumM : sProp 𝕄) ⊢ bigSep Finset.univ fun q : Fin 4 => some' c (accM q) :=
  cut_any c sumM accR (fun _ _ => rfl) accR_disjoint accR_cover
theorem sum_join : (bigSep Finset.univ fun q : Fin 4 => has c (accM q) (X.acc 3 c q) : sProp 𝕄) ⊢ has c sumM (X.sum c) := by
  have h := owns_of_rects (Val := Elt F) (Ix := Bool) (Name := ℕ) (U := UU) (Lvl := ℕ) (c : Thread nD τ) sumM fullShare accR (fun _ _ => rfl) accR_disjoint accR_cover (X.sum c)
  simp only [sum_emb] at h
  exact h

/-! ## The greeting -/

/-- What a device is launched with for the greeting. -/
def hello : sProp 𝕄 := iprop(
  (tok c .greetP ∗ tok c .greetN) ∗ (cred (tallyAt (own c .greetP) false 2) ∗ at' c .greetP 0)
  ∗ (reached ER (Ev.greetP.cell c) 0 ∗ reached ER (Ev.greetN.cell c) 0))
/-- Its own chunks' semaphores in round 0. -/
def marks : sProp 𝕄 := iprop(
  (bigSep Finset.univ fun q : Fin 4 => iprop(reached ER (own c (.rcv 0 q)) 0 ∗ reached ER (own c (.rcv 1 q)) 0))
  ∗ bigSep Finset.univ fun q : Fin 4 => reached ER (own c (.crd q)) 0)

theorem pay_greetP : iprop(slots c ∗ bigSep Finset.univ fun q : Fin 4 => iprop(reached ER (own c (.rcv 0 q)) 0 ∗ reached ER (own c (.rcv 1 q)) 0)) ⊢ pay X (Ev.greetP.dev c) .greetP := by
  have h : pay X (Ev.greetP.dev c) .greetP = bigSep Finset.univ fun q : Fin 4 =>
      iprop((some' (nxt (prv c)) (slotM 0 q) ∗ reached ER (own (nxt (prv c)) (.rcv 0 q)) 0) ∗ (some' (nxt (prv c)) (slotM 1 q) ∗ reached ER (own (nxt (prv c)) (.rcv 1 q)) 0)) := rfl
  rw [h, nxt_prv, ← bigSep_sep']
  suffices hq : ∀ q : Fin 4, iprop((some' c (slotM 0 q) ∗ some' c (slotM 1 q)) ∗ (reached ER (own c (.rcv 0 q)) 0 ∗ reached ER (own c (.rcv 1 q)) 0))
      ⊢ (iprop((some' c (slotM 0 q) ∗ reached ER (own c (.rcv 0 q)) 0) ∗ (some' c (slotM 1 q) ∗ reached ER (own c (.rcv 1 q)) 0)) : sProp 𝕄) from bigSep_mono fun q _ => hq q
  intro q
  iintro ⟨⟨H0, H1⟩, ⟨R0, R1⟩⟩
  isplitl [H0 R0]
  · isplitl [H0]; · iexact H0
    iexact R0
  isplitl [H1]; · iexact H1
  iexact R1
theorem pay_greetN : (bigSep Finset.univ fun q : Fin 4 => reached ER (own c (.crd q)) 0) ⊢ pay X (Ev.greetN.dev c) .greetN := by
  have h : pay X (Ev.greetN.dev c) .greetN = bigSep Finset.univ fun q : Fin 4 => reached ER (own (prv (nxt c)) (.crd q)) 0 := rfl
  rw [h, prv_nxt]

variable {X κ c}

/-- WAIT for both neighbours' greetings. -/
theorem wp_awaitBoth {Q : PUnit → sProp 𝕄} {k : PUnit → Code F PUnit} {w : TpuEff nD τ sig (Elt F) Λ₀ .tc PUnit} {sm : SemLoc sig}
    (hw : ∀ K : PUnit → sProp 𝕄, wpE (defs₀ (F := F)) 𝒱₀ (c : Thread nD τ) none Set.univ w K = waitSpec (c : Thread nD τ) Set.univ sm 2 K)
    (hs : sm = Ev.greetP.sem) (l : List Ev) (hl : ∀ e' ∈ l, 1 < e'.lvl) :
    iprop(know X κ ∗ cred (tallyAt (own c .greetP) false 2) ∗ owesL c l ∗ at' c .greetP 0)
      ⊢ iprop((iprop(owesL c l ∗ at' c .greetP 1 ∗ payP c ∗ payN c) -∗ runs c (k ⟨⟩) Q) -∗ runs c (.op w k) Q) := by
  subst hs
  unfold owesL
  iintro ⟨#Hκ, Hc, ⟨%W, HO⟩, Hat⟩ Hk
  ihave #Hi := (know_own X κ .greetP c) $$ Hκ
  have hd : (ringRd X).duties (own c .greetP) 0 = {.greetP, .greetN} := (duties_tc X c _ _).trans evsAt_bar
  have hm : know X κ ⊢ MayWait (c : Thread nD τ) Ev.greetP.sem false (owed c l) := know_wait X κ c Ev.greetP.sem false l 1 (Nat.le_of_eq (lvAt_ev .greetP)) hl
  have hx : 0 + 2 = (ringRd X).expect (own c .greetP) 0 := by
    unfold Schedule.expect Schedule.amountOf; rw [hd, Finset.sum_insert (by decide), Finset.sum_singleton]; rfl
  have hrule := Rounds.wp_wait_rest_token (defs := defs₀ (F := F)) (Q := Q) (k := k) 𝒱₀ ER (ringRd X) (c : Thread nD τ) none (κ := κ (own c .greetP)) hw (Set.mem_univ _) false (O := owed c l) (W := W) (R := 0) (m := 0) (T := ∅)
      hx
  iapply hrule $$ [Hc HO Hat]
  · isplitr; · iexact Hi
    isplitl [Hc]; · iexact Hc
    isplitl [HO]; · iexact HO
    isplitr; · iapply hm; iexact Hκ
    iexact Hat
  iintro ⟨HO, Hat, -, Hp⟩
  ihave Hp := (show bigSep ((ringRd X).duties (own c .greetP) 0 \ ∅) (fun d => (ringRd X).payload (own c .greetP) 0 d) ⊢ iprop(payP c ∗ payN c) from by
    rw [hd, Finset.sdiff_empty, bigSep_insert (by decide), bigSep_singleton]; exact .rfl) $$ Hp
  iapply Hk
  isplitl [HO]; · iexists _; iexact HO
  isplitl [Hat]; · iexact Hat
  iexact Hp

/-- GREETING: both neighbours told, both heard. -/
theorem runs_greet {Q : PUnit → sProp 𝕄} {p n : Dev nD} (hp : p = prv c) (hn : n = nxt c) (l : List Ev) (hl : ∀ e ∈ l, 1 < e.lvl) :
    iprop(know X κ ∗ owesL c (.greetP :: .greetN :: l) ∗ hello c ∗ marks c ∗ slots c)
      ⊢ iprop((iprop(owesL c l ∗ at' c .greetP 1 ∗ payP c ∗ payN c) -∗ Q ⟨⟩) -∗ runs c (greet p n) Q) := by
  unfold greet hello marks
  simp only [semSignalWord, semWaitWord, Prog.lift, Prog.bind_op, Prog.bind_ret, Prog.pure_eq_ret]
  iintro ⟨#Hκ, HO, ⟨⟨TP, TN⟩, ⟨Dc, Pc⟩, ⟨#RP, #RN⟩⟩, ⟨#Mr, #Mc⟩, Hs⟩ Hk
  iapply (wp_tell X κ c .greetP barS_eq hp rfl (.greetN :: l)) $$ [HO TP Hs]
  · isplitr; · iexact Hκ
    isplitl [HO]; · iexact HO
    isplitl [TP]; · iexact TP
    isplitl [Hs]
    · iapply (pay_greetP X c)
      isplitl [Hs]; · iexact Hs
      iexact Mr
    iexact RP
  iintro HO
  iapply (wp_tell X κ c .greetN barS_eq hn rfl l) $$ [HO TN]
  · isplitr; · iexact Hκ
    isplitl [HO]; · iexact HO
    isplitl [TN]; · iexact TN
    isplitr
    · iapply (pay_greetN X c); iexact Mc
    iexact RN
  iintro HO
  iapply (wp_awaitBoth (X := X) (κ := κ) (wpE_semWait_eq 𝒱₀ (c : Thread nD τ) none Set.univ) barS_eq l hl) $$ [HO Dc Pc]
  · isplitr; · iexact Hκ
    isplitl [Dc]; · iexact Dc
    isplitl [HO]; · iexact HO
    iexact Pc
  iintro H
  iapply (runs_ret c)
  iapply Hk; iexact H

/-! ## The four chunks in order, and the whole -/

/-- A stretch run for every chunk in order: `I` carried along, each chunk from `A q` to `B q`. -/
theorem runs_each (f : Fin 4 → Code F PUnit) (I : ℕ → sProp 𝕄) (A B : Fin 4 → sProp 𝕄)
    (h : ∀ (q : Fin 4) (Q : PUnit → sProp 𝕄), iprop(know X κ ∗ I q.val ∗ A q) ⊢ iprop((iprop(I (q.val + 1) ∗ B q) -∗ Q ⟨⟩) -∗ runs c (f q) Q))
    {Q : PUnit → sProp 𝕄} :
    iprop(know X κ ∗ I 0 ∗ bigSep Finset.univ A) ⊢ iprop((iprop(I 4 ∗ bigSep Finset.univ B) -∗ Q ⟨⟩) -∗ runs c (each f) Q) := by
  have b4 (Φ : Fin 4 → sProp 𝕄) : bigSep Finset.univ Φ = iprop(Φ 0 ∗ Φ 1 ∗ Φ 2 ∗ Φ 3) :=
    bigSep_univ_eq_bigSepL [(0 : Fin 4), 1, 2, 3] (by decide) (by decide) Φ
  rw [b4, b4]
  unfold each
  iintro ⟨#Hκ, HI, A0, A1, A2, A3⟩ Hk
  iapply (runs_bind c)
  iapply (show iprop(know X κ ∗ I 0 ∗ A 0) ⊢ iprop((iprop(I 1 ∗ B 0) -∗ _) -∗ _) from h 0 _) $$ [HI A0]
  · isplitr; · iexact Hκ
    isplitl [HI]; · iexact HI
    iexact A0
  iintro ⟨HI, B0⟩
  iapply (runs_bind c)
  iapply (show iprop(know X κ ∗ I 1 ∗ A 1) ⊢ iprop((iprop(I 2 ∗ B 1) -∗ _) -∗ _) from h 1 _) $$ [HI A1]
  · isplitr; · iexact Hκ
    isplitl [HI]; · iexact HI
    iexact A1
  iintro ⟨HI, B1⟩
  iapply (runs_bind c)
  iapply (show iprop(know X κ ∗ I 2 ∗ A 2) ⊢ iprop((iprop(I 3 ∗ B 2) -∗ _) -∗ _) from h 2 _) $$ [HI A2]
  · isplitr; · iexact Hκ
    isplitl [HI]; · iexact HI
    iexact A2
  iintro ⟨HI, B2⟩
  iapply (show iprop(know X κ ∗ I 3 ∗ A 3) ⊢ iprop((iprop(I 4 ∗ B 3) -∗ _) -∗ _) from h 3 _) $$ [HI A3]
  · isplitr; · iexact Hκ
    isplitl [HI]; · iexact HI
    iexact A3
  iintro ⟨HI, B3⟩
  iapply Hk
  isplitl [HI]; · iexact HI
  isplitl [B0]; · iexact B0
  isplitl [B1]; · iexact B1
  isplitl [B2]; · iexact B2
  iexact B3

theorem devO_eq (q : Fin 4) : devO c q = nxt c := by
  fin_cases q
  exacts [Fin.ext (k0_dev3_eq c), Fin.ext (k0_dev4_eq c), Fin.ext (k0_dev5_eq c), Fin.ext (k0_dev6_eq c)]
theorem devP_eq (q : Fin 4) : devP c q = prv c := by
  fin_cases q
  exacts [Fin.ext (k0_dev7_eq c), Fin.ext (k0_dev9_eq c), Fin.ext (k0_dev11_eq c), Fin.ext (k0_dev13_eq c)]
theorem devA_eq (q : Fin 4) : devA c q = nxt c := by
  fin_cases q
  exacts [Fin.ext (k0_dev8_eq c), Fin.ext (k0_dev10_eq c), Fin.ext (k0_dev12_eq c), Fin.ext (k0_dev14_eq c)]
theorem devB_eq (q : Fin 4) : devB c q = nxt c := by
  fin_cases q
  exacts [Fin.ext (k0_dev15_eq c), Fin.ext (k0_dev16_eq c), Fin.ext (k0_dev17_eq c), Fin.ext (k0_dev18_eq c)]

/-- What is still owed when `n` chunks are through step B; step A; the opening; and at the start. -/
def owedB (n : ℕ) : List Ev := ((List.finRange 4).drop n).map (Ev.rcv 2)
def owedA (n : ℕ) : List Ev := ((List.finRange 4).drop n).flatMap (fun q => [Ev.crd q, Ev.rcv 1 q]) ++ owedB 0
def owedO (n : ℕ) : List Ev := ((List.finRange 4).drop n).map (Ev.rcv 0) ++ owedA 0
def evs : List Ev := .greetP :: .greetN :: owedO 0

theorem owedO_step (q : Fin 4) : owedO q.val = .rcv 0 q :: owedO (q.val + 1) := by revert q; decide
theorem owedA_step (q : Fin 4) : owedA q.val = .crd q :: .rcv 1 q :: owedA (q.val + 1) := by revert q; decide
theorem owedB_step (q : Fin 4) : owedB q.val = .rcv 2 q :: owedB (q.val + 1) := by revert q; decide
theorem owedO_lvl : ∀ e ∈ owedO 0, 1 < e.lvl := by decide
theorem owedA_lvl (q : Fin 4) : ∀ e ∈ owedA (q.val + 1), 2 < e.lvl := by revert q; decide
theorem owedB_lvl (q : Fin 4) : ∀ e ∈ owedB (q.val + 1), 4 < e.lvl := by revert q; decide

/-- A store through a rectangle of an owned window, at what the window reads afterwards. -/
theorem wp_putAll (c : Dev nD) {s : Shape} {e : EltTy} (m : Memref sig .tc .vmem s e) (r : Rect s) {Q : PUnit → sProp 𝕄}
    {w : r.shape.Idx → Elt F e} {hx : (m.access r).Stores Finset.univ} {hm : Finset.univ = Finset.univ ∨ ∀ a, r.stride a = 1}
    {k : PUnit → Code F PUnit} (Y Z : s.Idx → Elt F e)
    (hw : ∀ f : m.view.ty.Contents (Elt F), m.view.read (Elt F) ((m.access r).write (Elt F) f w Finset.univ) = Z) :
    has c m Y ⊢ iprop((has c m Z -∗ runs c (k ⟨⟩) Q) -∗ runs c (.op (.store m r w Finset.univ hx hm) k) Q) := by
  unfold has owns
  iintro ⟨%f, %hf, H⟩ Hk
  iapply (wp_store 𝒱₀ (c : Thread nD τ) none Set.univ (m := m) (r := r) (w := w) (hx := hx) (hm := hm) (k := k) (S := m.view.set) (View.set_slice_subset _ _)) $$ H
  iintro H
  iapply Hk
  iexists ((m.access r).write (Elt F) f w Finset.univ)
  isplitr; · ipureintro; exact hw f
  iexact H

/-- A store through the whole rectangle of the result leaves what was stored. -/
theorem read_put (inb) (w f : FVec F S4x256x2048 .f32) :
    rM.view.read (Elt F) ((rM.access (Rect.unit ![0, 0, 0] S4x256x2048.size inb)).write (Elt F) f w Finset.univ) = w :=
  (congrArg (rM.view.read (Elt F)) (Memref.write_access_unit_zero_univ (Elt F) cc0_stg2_0
    (show (![0, 0, 0] : Fin 3 → ℕ) = fun _ => 0 from by funext a; fin_cases a <;> rfl) inb f w)).trans rfl

/-- FINISH: the accumulator, relaid, into the result. -/
theorem runs_finish {Q : PUnit → sProp 𝕄} (Z : FVec F S1024x2048 .f32) :
    iprop(has c sumM Z ∗ some' c rM) ⊢ iprop((iprop(has c sumM Z ∗ has c rM (k0_pay22 Z)) -∗ Q ⟨⟩) -∗ runs c finish Q) := by
  have e2 (h) : (fun j => Z ((Rect.unit (s := S1024x2048) ![0, 0] S1024x2048.size h).emb j)) = Z := by
    funext j; refine congrArg Z (funext fun a => Fin.ext ?_)
    show (![0, 0] : Fin 2 → ℕ) a + 1 * (j a).val = (j a).val
    fin_cases a <;> simp
  unfold finish some'
  simp only [Prog.lift, Prog.bind_op, Prog.bind_ret, Prog.pure_eq_ret]
  iintro ⟨Ha, ⟨%Y, Hr⟩⟩ Hk
  iapply (wp_get c Z) $$ Ha
  iintro Ha
  iapply (wp_get c Y) $$ Hr
  iintro Hr
  rw [e2]
  iapply (wp_putAll c rM _ Y (k0_pay22 Z) (read_put _ _)) $$ Hr
  iintro Hr
  iapply (runs_ret c)
  iapply Hk
  isplitl [Ha]; · iexact Ha
  iexact Hr

/-- What a device starts from, beside its operands and what it owes; and what it ends with. -/
def before : sProp 𝕄 := iprop(
  some' c rM ∗ hello c ∗ marks c ∗ some' c landM ∗ some' c sumM ∗ bigSep Finset.univ (kit c))
def after : sProp 𝕄 := iprop(
  has c rM (X.out c) ∗ at' c .greetP 1 ∗ some' c landM ∗ some' c sumM
  ∗ bigSep Finset.univ fun q : Fin 4 => iprop(at' c (.snd 2 q) 2 ∗ at' c (.snd 1 q) 1 ∗ at' c (.rcv 2 q) 2 ∗ at' c (.rcv 1 q) 1 ∗ at' c (.crd q) 1))

/-- THE BODY of device `c`. -/
theorem runs_body {Q : PUnit → sProp 𝕄} :
    iprop(know X κ ∗ ins X c ∗ owesL c evs ∗ before (F := F) (c := c))
      ⊢ iprop((iprop(ins X c ∗ owesL c [] ∗ after (X := X) (c := c)) -∗ Q ⟨⟩) -∗ runs c (mirror c) Q) := by
  unfold mirror before after
  iintro ⟨#Hκ, Hi, HO, Hr, Hh, Hm, Hl, Hs, Hkit⟩ Hk
  ihave Hl := (land_cut c) $$ Hl
  ihave Hs := (sum_cut c) $$ Hs
  iapply (runs_bind c)
  iapply (runs_greet (X := X) (κ := κ) (Fin.ext (k0_dev1_eq c)) (Fin.ext (k0_dev2_eq c)) (owedO 0) owedO_lvl) $$ [HO Hh Hm Hl]
  · isplitr; · iexact Hκ
    isplitl [HO]; · iexact HO
    isplitl [Hh]; · iexact Hh
    isplitl [Hm]; · iexact Hm
    iexact Hl
  iintro ⟨HO, Hb, HP, HN⟩
  ihave HA := (show iprop((bigSep Finset.univ fun q : Fin 4 => some' c (accM q)) ∗ payP c ∗ payN c ∗ bigSep Finset.univ (kit c)) ⊢ (bigSep Finset.univ (st0 c) : sProp 𝕄) from by
    unfold payP payN
    rw [← bigSep_sep', ← bigSep_sep', ← bigSep_sep']
    suffices h : ∀ q : Fin 4, _ ⊢ (st0 c q : sProp 𝕄) from bigSep_mono fun q _ => h q
    intro q
    unfold st0
    iintro ⟨Ha, ⟨H0, H1⟩, Hc, Hq⟩
    isplitl [Ha]; · iexact Ha
    isplitl [H0]; · iexact H0
    isplitl [H1]; · iexact H1
    isplitl [Hc]; · iexact Hc
    iexact Hq) $$ [Hs HP HN Hkit]
  · isplitl [Hs]; · iexact Hs
    isplitl [HP]; · iexact HP
    isplitl [HN]; · iexact HN
    iexact Hkit
  iapply (runs_bind c)
  iapply (runs_each (X := X) (κ := κ) _ (fun n => iprop(ins X c ∗ owesL c (owedO n))) (st0 c) (st1 c) (fun q Q => by
    rw [owedO_step, devO_eq]
    iintro ⟨#Hκ, ⟨Hi, HO⟩, HA⟩ Hk
    iapply (runs_opening (X := X) (κ := κ) q rfl (owedO (q.val + 1))) $$ [Hi HO HA]
    · isplitr; · iexact Hκ
      isplitl [Hi]; · iexact Hi
      isplitl [HO]; · iexact HO
      iexact HA
    iintro ⟨Hi, HO, HA⟩
    iapply Hk
    isplitl [Hi HO]
    · isplitl [Hi]; · iexact Hi
      iexact HO
    iexact HA)) $$ [Hi HO HA]
  · isplitr; · iexact Hκ
    isplitl [Hi HO]
    · isplitl [Hi]; · iexact Hi
      iexact HO
    iexact HA
  iintro ⟨⟨Hi, HO⟩, HA⟩
  iapply (runs_bind c)
  iapply (runs_each (X := X) (κ := κ) _ (fun n => iprop(ins X c ∗ owesL c (owedA n))) (st1 c) (st2 c) (fun q Q => by
    rw [owedA_step, devP_eq, devA_eq]
    iintro ⟨#Hκ, ⟨Hi, HO⟩, HA⟩ Hk
    iapply (runs_stepA (X := X) (κ := κ) q rfl rfl (owedA (q.val + 1)) (owedA_lvl q)) $$ [Hi HO HA]
    · isplitr; · iexact Hκ
      isplitl [Hi]; · iexact Hi
      isplitl [HO]; · iexact HO
      iexact HA
    iintro ⟨Hi, HO, HA⟩
    iapply Hk
    isplitl [Hi HO]
    · isplitl [Hi]; · iexact Hi
      iexact HO
    iexact HA)) $$ [Hi HO HA]
  · isplitr; · iexact Hκ
    isplitl [Hi HO]
    · isplitl [Hi]; · iexact Hi
      iexact HO
    iexact HA
  iintro ⟨⟨Hi, HO⟩, HA⟩
  iapply (runs_bind c)
  iapply (runs_each (X := X) (κ := κ) _ (fun n => iprop(ins X c ∗ owesL c (owedB n))) (st2 c) (st3 c) (fun q Q => by
    rw [owedB_step, devB_eq]
    iintro ⟨#Hκ, ⟨Hi, HO⟩, HA⟩ Hk
    iapply (runs_stepB (X := X) (κ := κ) q rfl (owedB (q.val + 1)) (owedB_lvl q)) $$ [Hi HO HA]
    · isplitr; · iexact Hκ
      isplitl [Hi]; · iexact Hi
      isplitl [HO]; · iexact HO
      iexact HA
    iintro ⟨Hi, HO, HA⟩
    iapply Hk
    isplitl [Hi HO]
    · isplitl [Hi]; · iexact Hi
      iexact HO
    iexact HA)) $$ [Hi HO HA]
  · isplitr; · iexact Hκ
    isplitl [Hi HO]
    · isplitl [Hi]; · iexact Hi
      iexact HO
    iexact HA
  iintro ⟨⟨Hi, HO⟩, HA⟩
  iapply (runs_bind c)
  iapply (runs_each (X := X) (κ := κ) _ (fun n => iprop(ins X c ∗ owesL c [])) (st3 c) (st4 X c) (fun q Q => by
    iintro ⟨#Hκ, ⟨Hi, HO⟩, HA⟩ Hk
    iapply (runs_stepC (X := X) (κ := κ) q) $$ [Hi HO HA]
    · isplitr; · iexact Hκ
      isplitl [Hi]; · iexact Hi
      isplitl [HO]; · iexact HO
      iexact HA
    iintro ⟨Hi, HO, HA⟩
    iapply Hk
    isplitl [Hi HO]
    · isplitl [Hi]; · iexact Hi
      iexact HO
    iexact HA)) $$ [Hi HO HA]
  · isplitr; · iexact Hκ
    isplitl [Hi HO]
    · isplitl [Hi]; · iexact Hi
      iexact HO
    iexact HA
  iintro ⟨⟨Hi, HO⟩, HA⟩
  ihave HA := (show bigSep Finset.univ (st4 X c) ⊢ (iprop((bigSep Finset.univ fun q : Fin 4 => has c (accM q) (X.acc 3 c q)) ∗ slots c
      ∗ bigSep Finset.univ fun q : Fin 4 => iprop(at' c (.snd 2 q) 2 ∗ at' c (.snd 1 q) 1 ∗ at' c (.rcv 2 q) 2 ∗ at' c (.rcv 1 q) 1 ∗ at' c (.crd q) 1)) : sProp 𝕄) from by
    unfold st4; rw [bigSep_sep', bigSep_sep']) $$ HA
  icases HA with ⟨Hs, Hl, Hat⟩
  ihave Hs := (sum_join X c) $$ Hs
  ihave Hl := (land_join c) $$ Hl
  iapply (runs_finish (X.sum c)) $$ [Hs Hr]
  · isplitl [Hs]; · iexact Hs
    iexact Hr
  iintro ⟨Hs, Hr⟩
  iapply Hk
  isplitl [Hi]; · iexact Hi
  isplitl [HO]; · iexact HO
  isplitl [Hr]; · iexact Hr
  isplitl [Hb]; · iexact Hb
  isplitl [Hl]; · iexact Hl
  isplitl [Hs]; · iexists _; iexact Hs
  iexact Hat

end Cert.RingProof

end
-- ==== Proof.Ghost.lean ====
/-
The launch's share of the protocol: the cells of all devices, the tokens of all events and the credits of all waits,
dealt to the devices; and the semaphores that live only during the kernel opened at its start and closed at its end.
-/
module

public import proofs.«01_k».proof.Proof.Body

@[expose] public section

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Bool (Elt F) ℕ UU ℕ

/-! ## The events sorted by chunk -/

/-- The events of chunk `q`: all of them; those somebody waits for under a credit dealt at launch; one for each semaphore. -/
def chunkEv : Fin 4 × Fin 7 → Ev := fun x => ![.snd 0 x.1, .snd 1 x.1, .snd 2 x.1, .rcv 0 x.1, .rcv 1 x.1, .rcv 2 x.1, .crd x.1] x.2
def dueEv : Fin 4 × Fin 4 → Ev := fun x => ![.rcv 0 x.1, .rcv 1 x.1, .rcv 2 x.1, .crd x.1] x.2
def rep : Fin 4 × Fin 5 → Ev := fun x => ![.snd 0 x.1, .snd 1 x.1, .rcv 0 x.1, .rcv 1 x.1, .crd x.1] x.2

theorem chunkEv_inj : Function.Injective chunkEv := by decide +kernel
theorem dueEv_inj : Function.Injective dueEv := by decide +kernel
theorem univ_ev : (Finset.univ : Finset Ev) = insert .greetP (insert .greetN (Finset.univ.map ⟨chunkEv, chunkEv_inj⟩)) := by decide +kernel
theorem evs_set : insert Ev.greetP (insert .greetN (Finset.univ.map ⟨dueEv, dueEv_inj⟩)) = evs.toFinset := by decide +kernel
theorem evs_nodup : evs.Nodup := by decide +kernel

/-- A resource per event, chunk by chunk. -/
theorem bigSep_ev (Φ : Ev → sProp 𝕄) : bigSep Finset.univ Φ = iprop(Φ .greetP ∗ Φ .greetN ∗ bigSep Finset.univ fun q : Fin 4 =>
    iprop(Φ (.snd 0 q) ∗ Φ (.snd 1 q) ∗ Φ (.snd 2 q) ∗ Φ (.rcv 0 q) ∗ Φ (.rcv 1 q) ∗ Φ (.rcv 2 q) ∗ Φ (.crd q))) := by
  rw [univ_ev, bigSep_insert (by decide +kernel), bigSep_insert (by decide +kernel), bigSep_map, bigSep_univ_prod]
  refine congrArg (fun Z => iprop(Φ .greetP ∗ Φ .greetN ∗ Z)) (bigSep_congr fun q _ => ?_)
  exact bigSep_univ_eq_bigSepL [(0 : Fin 7), 1, 2, 3, 4, 5, 6] (by decide) (by decide) _
/-- A resource per event owed, chunk by chunk. -/
theorem bigSep_evs (Φ : Ev → sProp 𝕄) : bigSepL evs Φ = iprop(Φ .greetP ∗ Φ .greetN ∗ bigSep Finset.univ fun q : Fin 4 =>
    iprop(Φ (.rcv 0 q) ∗ Φ (.rcv 1 q) ∗ Φ (.rcv 2 q) ∗ Φ (.crd q))) := by
  rw [← bigSep_eq_bigSepL_of_eq evs evs_set evs_nodup, bigSep_insert (by decide +kernel), bigSep_insert (by decide +kernel), bigSep_map, bigSep_univ_prod]
  refine congrArg (fun Z => iprop(Φ .greetP ∗ Φ .greetN ∗ Z)) (bigSep_congr fun q _ => ?_)
  exact bigSep_univ_eq_bigSepL [(0 : Fin 4), 1, 2, 3] (by decide) (by decide) _
/-- A resource per semaphore of the kernel's own, chunk by chunk. -/
theorem bigSep_rep (Φ : Fin 4 × Fin 5 → sProp 𝕄) : bigSep Finset.univ Φ = bigSep Finset.univ fun q : Fin 4 =>
    iprop(Φ (q, 0) ∗ Φ (q, 1) ∗ Φ (q, 2) ∗ Φ (q, 3) ∗ Φ (q, 4)) := by
  rw [bigSep_univ_prod]
  exact bigSep_congr fun q _ => bigSep_univ_eq_bigSepL [(0 : Fin 5), 1, 2, 3, 4] (by decide) (by decide) _

/-! ## The credits dealt at launch -/

/-- The credits of device `c`'s waits for the events `l`. -/
def waits (c : Dev nD) : List Ev → CellTallies nD τ sig Bool
  | [] => 0
  | e :: l => waits c l + tallyAt (own c e) e.ix e.amt

theorem dev_bij (e : Ev) : Function.Bijective e.dev := ⟨fun _ _ h => e.dev_inj h, fun d => ⟨e.src d, e.dev_src d⟩⟩

/-- What all devices owe is what all devices wait for. -/
theorem sum_owed (l : List Ev) : (∑ d, owed d l) = ∑ d, waits d l := by
  induction l with
  | nil => rfl
  | cons e l ih =>
    simp only [owed, waits, Finset.sum_add_distrib, ih]
    exact congrArg _ ((dev_bij e).sum_comp fun d => tallyAt (own d e) e.ix e.amt)

theorem waits_own (d : Dev nD) (g : GSem nD τ sig) : ∀ l : List Ev, waits d l g ≠ 0 → g.1 = (d : Thread nD τ)
  | [], h => absurd rfl h
  | e :: l, h => by
    by_cases hg : g = own d e
    · rw [hg]
    · refine waits_own d g l fun h0 => h ?_
      unfold waits
      rw [Pi.add_apply, h0, tallyAt_ne_cell hg, zero_add]

omit [FloatOps F] in
theorem cred_waits (c : Dev nD) (l : List Ev) : (cred (waits c l) : sProp 𝕄) = bigSepL l fun e => due c e := by
  induction l with
  | nil => exact cred_zero
  | cons e l ih =>
    rw [bigSepL_cons, ← ih]
    exact BI.Entails.antisymm ((cred_add _ _).1.trans sep_comm.1) (sep_comm.1.trans (cred_add _ _).2)

/-- The credits of the greeting, and those of each chunk. -/
abbrev dues (c : Dev nD) : sProp 𝕄 := iprop(cred (tallyAt (own c .greetP) false 2) ∗ bigSep Finset.univ fun q : Fin 4 =>
    iprop(due c (.rcv 0 q) ∗ due c (.rcv 1 q) ∗ due c (.rcv 2 q) ∗ due c (.crd q)))

theorem launch_dues (c : Dev nD) : (Pipeline.launchCred (fun d => owed d evs) c : sProp 𝕄) ⊢ dues c := by
  rw [Pipeline.launchCred_of_sum (fun d => owed d evs) (fun d => waits d evs) (sum_owed evs) (fun d g => waits_own d g evs) c, cred_waits, bigSep_evs]
  iintro ⟨H1, H2, H⟩
  isplitl [H1 H2]
  · rw [← tallyAt_add (own c .greetP) false 1 1]
    iapply (cred_add _ _).2
    isplitl [H1]; · iexact H1
    iexact H2
  iexact H

/-! ## The cells -/

/-- The kernel's own semaphores. -/
abbrev osem (k : Fin 4 × Fin 5) : SemLoc sig := (rep k).sem
theorem osem_inj : Function.Injective osem := by decide +kernel
theorem osem_ne : ∀ k, osem k ≠ Ev.greetP.sem := by decide +kernel
theorem osem_cover : ∀ e : Ev, e.sem = Ev.greetP.sem ∨ ∃ k, osem k = e.sem := by decide +kernel

def barEmb : Dev nD ↪ GSem nD τ sig := ⟨fun c => own c .greetP, fun _ _ h => congrArg (fun g : GSem nD τ sig => g.1.1) h⟩
def ownEmb : Dev nD × (Fin 4 × Fin 5) ↪ GSem nD τ sig :=
  ⟨fun x => own x.1 (rep x.2), fun _ _ h => Prod.ext (congrArg (fun g : GSem nD τ sig => g.1.1) h) (osem_inj (congrArg Prod.snd h))⟩
/-- The greeting's cells, live from the launch; the kernel's own, dormant until it starts. -/
abbrev barCells : Finset (GSem nD τ sig) := Finset.univ.map barEmb
abbrev ownCells : Finset (GSem nD τ sig) := Finset.univ.map ownEmb
theorem cells_disjoint : Disjoint barCells ownCells := by
  rw [Finset.disjoint_left]
  intro g h₁ h₂
  obtain ⟨c, -, rfl⟩ := Finset.mem_map.mp h₁
  obtain ⟨x, -, h⟩ := Finset.mem_map.mp h₂
  exact osem_ne x.2 (congrArg Prod.snd h)

theorem cell_mem (e : Ev) (d : Dev nD) : e.cell d ∈ barCells ∪ ownCells := by
  rcases osem_cover e with h | ⟨k, h⟩
  · refine Finset.mem_union_left _ (Finset.mem_map.mpr ⟨e.dev d, Finset.mem_univ _, ?_⟩)
    show ((e.dev d : Thread nD τ), Ev.greetP.sem) = ((e.dev d : Thread nD τ), e.sem)
    rw [h]
  · refine Finset.mem_union_right _ (Finset.mem_map.mpr ⟨(e.dev d, k), Finset.mem_univ _, ?_⟩)
    show ((e.dev d : Thread nD τ), osem k) = ((e.dev d : Thread nD τ), e.sem)
    rw [h]

/-- One token for every event of every device. -/
def allToks : Finset (GSem nD τ sig × ℕ × Ev) :=
  Finset.univ.map ⟨fun x : Dev nD × Ev => (x.2.cell x.1, x.2.rnd, x.2), fun x y h => by
    obtain ⟨d, e⟩ := x; obtain ⟨d', e'⟩ := y
    have he : e = e' := congrArg (fun t : GSem nD τ sig × ℕ × Ev => t.2.2) h
    subst he
    exact Prod.ext (e.dev_inj (congrArg (fun t : GSem nD τ sig × ℕ × Ev => t.1.1.1) h)) rfl⟩

variable (X : Data F) (κ : GSem nD τ sig → ℕ) (c : Dev nD)

/-- What every device may look up: the invariants of all cells, and that the greeting's cells are in round 0. -/
def records : sProp 𝕄 := iprop((bigSep (barCells ∪ ownCells) fun g => cellInv ER (ringRd X) (κ g) g) ∗ bigSep barCells fun g => reached ER g 0)
instance records_persistent : BI.Persistent (records X κ) := by unfold records; infer_instance

theorem records_know : iprop(records X κ ∗ levAts L lv) ⊢ know X κ := by
  unfold records know
  iintro ⟨⟨#HI, -⟩, #HL⟩
  isplitr
  · iapply (bigSep_with_persistent (R := bigSep (barCells ∪ ownCells) fun g => (cellInv ER (ringRd X) (κ g) g : sProp 𝕄))
      (Φ := fun _ : Dev nD × Ev => (BI.emp : sProp 𝕄)) fun x _ => (show _ ⊢ cellInv ER (ringRd X) (κ (x.2.cell x.1)) (x.2.cell x.1) from by
        iintro ⟨H, -⟩
        iapply (bigSep_elim (cell_mem x.2 x.1) : _ ⊢ _) $$ H))
    isplitr; · iexact HI
    rw [BI.bigSep_emp_const]; iempintro
  iexact HL

theorem records_reached : records X κ ⊢ (reached ER (own c .greetP) 0 : sProp 𝕄) := by
  unfold records
  iintro ⟨-, H⟩
  iapply (bigSep_elim (Finset.mem_map_of_mem barEmb (Finset.mem_univ c)) : _ ⊢ _) $$ H

/-- What the launch deals to device `c` alone: its position on the greeting's cell, the right to open its own cells, its tokens. -/
def dealt : sProp 𝕄 := iprop(
  at' c .greetP 0 ∗ (bigSep Finset.univ fun k : Fin 4 × Fin 5 => openTok ER (own c (rep k))) ∗ bigSep Finset.univ fun e : Ev => tok c e)

/-! ## The kernel's own semaphores, opened and closed -/

/-- All that a device starts the kernel with, beside memory and what it owes. -/
def stock : sProp 𝕄 := iprop(hello c ∗ marks c ∗ bigSep Finset.univ (kit c))

omit [FloatOps F] in
theorem regroup {A B C P R K : Fin 4 → sProp 𝕄} (h : ∀ q, iprop(A q ∗ B q ∗ C q) ⊢ iprop(P q ∗ R q ∗ K q)) :
    iprop(bigSep Finset.univ A ∗ bigSep Finset.univ B ∗ bigSep Finset.univ C) ⊢ iprop(bigSep Finset.univ P ∗ bigSep Finset.univ R ∗ bigSep Finset.univ K) := by
  rw [← bigSep_sep' Finset.univ B C, ← bigSep_sep' Finset.univ A, ← bigSep_sep' Finset.univ R K, ← bigSep_sep' Finset.univ P]
  exact bigSep_mono fun q _ => h q

theorem stock_of :
    iprop(records X κ ∗ at' c .greetP 0 ∗ (bigSep Finset.univ fun e : Ev => tok c e) ∗ dues c
        ∗ bigSep Finset.univ fun k : Fin 4 × Fin 5 => iprop(at' c (rep k) 0 ∗ reached ER (own c (rep k)) 0))
      ⊢ stock c := by
  have h : ∀ q : Fin 4, iprop(
        (tok c (.snd 0 q) ∗ tok c (.snd 1 q) ∗ tok c (.snd 2 q) ∗ tok c (.rcv 0 q) ∗ tok c (.rcv 1 q) ∗ tok c (.rcv 2 q) ∗ tok c (.crd q))
        ∗ (due c (.rcv 0 q) ∗ due c (.rcv 1 q) ∗ due c (.rcv 2 q) ∗ due c (.crd q))
        ∗ ((at' c (.snd 0 q) 0 ∗ reached ER (own c (.snd 0 q)) 0) ∗ (at' c (.snd 1 q) 0 ∗ reached ER (own c (.snd 1 q)) 0)
          ∗ (at' c (.rcv 0 q) 0 ∗ reached ER (own c (.rcv 0 q)) 0) ∗ (at' c (.rcv 1 q) 0 ∗ reached ER (own c (.rcv 1 q)) 0)
          ∗ (at' c (.crd q) 0 ∗ reached ER (own c (.crd q)) 0)))
        ⊢ (iprop((reached ER (own c (.rcv 0 q)) 0 ∗ reached ER (own c (.rcv 1 q)) 0) ∗ reached ER (own c (.crd q)) 0 ∗ kit c q) : sProp 𝕄) := by
    intro q
    unfold kit
    iintro ⟨Ht, Hd, ⟨As0, #Rs0⟩, ⟨As1, #Rs1⟩, ⟨Ar0, #Rr0⟩, ⟨Ar1, #Rr1⟩, ⟨Ac, #Rc⟩⟩
    isplitr
    · isplitr; · iexact Rr0
      iexact Rr1
    isplitr; · iexact Rc
    isplitl [Ht]; · iexact Ht
    isplitl [Hd]; · iexact Hd
    isplitl [As0 As1 Ar0 Ar1 Ac]
    · isplitl [As0]; · iexact As0
      isplitl [As1]; · iexact As1
      isplitl [Ar0]; · iexact Ar0
      isplitl [Ar1]; · iexact Ar1
      iexact Ac
    isplitr; · iexact Rs0
    iexact Rs1
  rw [bigSep_ev, bigSep_rep]
  unfold dues stock hello marks
  iintro ⟨#HR, Hat, ⟨HtP, HtN, Ht⟩, ⟨HcB, Hd⟩, Ho⟩
  ihave H := (regroup h) $$ [Ht Hd Ho]
  · isplitl [Ht]; · iexact Ht
    isplitl [Hd]; · iexact Hd
    iexact Ho
  icases H with ⟨Hm, Hm', Hk⟩
  isplitl [HtP HtN HcB Hat]
  · isplitl [HtP HtN]
    · isplitl [HtP]; · iexact HtP
      iexact HtN
    isplitl [HcB Hat]
    · isplitl [HcB]; · iexact HcB
      iexact Hat
    isplitr
    · iapply (records_reached X κ (prv c)); iexact HR
    · iapply (records_reached X κ (nxt c)); iexact HR
  isplitl [Hm Hm']
  · isplitl [Hm]; · iexact Hm
    iexact Hm'
  iexact Hk

/-- OPENING the kernel's own semaphores. -/
theorem open_stock :
    iprop(records X κ ∗ dealt c ∗ dues c ∗ Pipeline.ownSems0 osem c) ⊢ (|={Set.univ}=> stock c : sProp 𝕄) := by
  unfold dealt Pipeline.ownSems0
  iintro ⟨#HR, ⟨Hat, Hop, Ht⟩, Hd, Hv⟩
  have hi : records X κ ⊢ (bigSep (barCells ∪ ownCells) fun g => cellInv ER (ringRd X) (κ g) g : sProp 𝕄) := by
    unfold records; iintro ⟨H, -⟩; iexact H
  ihave #HI := hi $$ HR
  ihave Hop := (bigSep_with_persistent (S := Finset.univ) (R := bigSep (barCells ∪ ownCells) fun g => (cellInv ER (ringRd X) (κ g) g : sProp 𝕄))
      (Φ := fun k : Fin 4 × Fin 5 => (openTok ER (own c (rep k)) : sProp 𝕄))
      (Ψ := fun k => iprop(cellInv ER (ringRd X) (κ (own c (rep k))) (own c (rep k)) ∗ openTok ER (own c (rep k)))) fun k _ => (by
        iintro ⟨H, Ho⟩
        isplitl [H]
        · iapply (bigSep_elim (show own c (rep k) ∈ barCells ∪ ownCells from Finset.mem_union_right _ (Finset.mem_map_of_mem ownEmb (Finset.mem_univ (c, k)))) : _ ⊢ _) $$ H
        iexact Ho)) $$ [Hop]
  · isplitr; · iexact HI
    iexact Hop
  imod (Rounds.cells_open ER (ringRd X) (Finset.univ : Finset (Fin 4 × Fin 5)) (fun k => own c (rep k)) (fun k => κ (own c (rep k))) (Es := Set.univ)
    (fun k _ => Set.mem_univ _)) $$ [Hop Hv] with Ho
  · isplitl [Hop]; · iexact Hop
    iexact Hv
  imodintro
  iapply (stock_of X κ c)
  isplitr; · iexact HR
  isplitl [Hat]; · iexact Hat
  isplitl [Ht]; · iexact Ht
  isplitl [Hd]; · iexact Hd
  iexact Ho

/-- The round after each semaphore's last. -/
def endR (k : Fin 4 × Fin 5) : ℕ := ![2, 1, 2, 1, 1] k.2
set_option maxRecDepth 100000 in
theorem rnd_lt : ∀ (k : Fin 4 × Fin 5) (e : Ev), e.sem = osem k → e.rnd < endR k := by decide +kernel
theorem rnd_lt_bar : ∀ e : Ev, e.sem = Ev.greetP.sem → e.rnd < 1 := by decide +kernel
theorem no_duties {sm : SemLoc sig} {R : ℕ} (h : ∀ e : Ev, e.sem = sm → e.rnd < R) (r : ℕ) (hr : R ≤ r) : (ringRd X).duties ((c : Thread nD τ), sm) r = ∅ := by
  rw [duties_tc]
  exact Finset.filter_eq_empty_iff.mpr fun e _ ⟨hs, he⟩ => by have := h e hs; omega

/-- CLOSING them, and the greeting's. -/
theorem close_stock :
    iprop(know X κ ∗ at' c .greetP 1 ∗ bigSep Finset.univ fun q : Fin 4 =>
        iprop(at' c (.snd 2 q) 2 ∗ at' c (.snd 1 q) 1 ∗ at' c (.rcv 2 q) 2 ∗ at' c (.rcv 1 q) 1 ∗ at' c (.crd q) 1))
      ⊢ (|={Set.univ}=> iprop(semVal (own c .greetP) 0 ∗ Pipeline.ownSems0 osem c) : sProp 𝕄) := by
  have he : (bigSep Finset.univ fun q : Fin 4 => iprop(at' c (.snd 2 q) 2 ∗ at' c (.snd 1 q) 1 ∗ at' c (.rcv 2 q) 2 ∗ at' c (.rcv 1 q) 1 ∗ at' c (.crd q) 1) : sProp 𝕄)
      = bigSep Finset.univ fun k : Fin 4 × Fin 5 => atPos ER (own c (rep k)) (endR k) ∅ 0 := by rw [bigSep_rep]; rfl
  rw [he]
  unfold Pipeline.ownSems0
  iintro ⟨#Hκ, Hb, Ha⟩
  ihave Ha := (bigSep_with_persistent (S := Finset.univ) (R := know X κ) (Φ := fun k : Fin 4 × Fin 5 => (atPos ER (own c (rep k)) (endR k) ∅ 0 : sProp 𝕄))
      (Ψ := fun k => iprop(cellInv ER (ringRd X) (κ (own c (rep k))) (own c (rep k)) ∗ atPos ER (own c (rep k)) (endR k) ∅ 0)) fun k _ => (by
        iintro ⟨H, Ho⟩
        isplitl [H]
        · iapply (know_own X κ (rep k) c) $$ H
        iexact Ho)) $$ [Ha]
  · isplitr; · iexact Hκ
    iexact Ha
  ihave #Hi := (know_own X κ .greetP c) $$ Hκ
  imod (Rounds.cell_close ER (ringRd X) (Set.mem_univ (κ (own c .greetP))) id (no_duties X c rnd_lt_bar)) $$ [Hb] with Hb
  · isplitr; · iexact Hi
    iexact Hb
  imod (Rounds.cells_close ER (ringRd X) (Finset.univ : Finset (Fin 4 × Fin 5)) (fun k => own c (rep k)) (fun k => κ (own c (rep k))) (Es := Set.univ)
    (fun k _ => Set.mem_univ _) (fun k _ => id) endR (fun k _ => no_duties X c (rnd_lt k))) $$ [Ha] with Ha
  · iexact Ha
  imodintro
  isplitl [Hb]; · iexact Hb
  iexact Ha

end Cert.RingProof

end
-- ==== Proof.Launch.lean ====
/-
The run of the whole program on all devices: the host reshape, then the kernel, from any memory with all counters at zero.
-/
module

public import proofs.«01_k».proof.Proof.Ghost
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.RegionTalk
public import Idealize.ShloMosaic.Lib.Pipeline.ValueKit
public import Idealize.ShloMosaic.Adequacy

@[expose] public section

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]
local notation "𝕄" => MT nD τ sig Bool (Elt F) ℕ UU ℕ

variable (m : (ℓ : Loc nD τ sig) → Buf (Elt F) ℓ) (ρ : Dev nD → PrngReg)

/-! ## The buffers -/

/-- The buffers that live through the whole run. -/
def bufs : Finset (DevRef τ sig) := (StableHlo.tcRefs τ sig).filter fun b => ¬ b.isScoped
/-- Those the kernel stages, and the others. -/
abbrev arrs : Finset (DevRef τ sig) := Pipeline.arrRefs (τ := τ) spec0
theorem arrs_sub : arrs ⊆ bufs := by decide

/-- Device `c`'s buffers at launch, after the reshape, and after the kernel. -/
abbrev V₀ (c : Dev nD) : Valuation τ sig (Elt F) := fun b => m (c, b)
abbrev V₁ (c : Dev nD) : Valuation τ sig (Elt F) := StableHlo.after hostOps0 (V₀ m c)
/-- What the ring works on: each device's two staged operands. -/
def operands : Data F where
  o c := iblk m c 0 t0_0
  w c := iblk m c 1 t0_0
abbrev V₂ (c : Dev nD) : Valuation τ sig (Elt F) := Function.update (V₁ m c) (Proc.devRef .tc main_v2) ((operands m).out c)

theorem unscopedBufs_held (c : Dev nD) (W : Valuation τ sig (Elt F)) :
    (unscopedBufs c (fun b => W b) : sProp 𝕄) = StableHlo.held (c : Thread nD τ) bufs W := by
  unfold unscopedBufs StableHlo.held bufs StableHlo.tcRefs
  rw [Finset.filter_map, BI.bigSep_map]
  rfl

abbrev pt (c : Dev nD) (b : Ref sig .tc) (f : Buf (Elt F) ((c : Thread nD τ).loc b)) : sProp 𝕄 := ((c : Thread nD τ).loc b) ↦{fullShare} f

theorem bufs_eq (c : Dev nD) (W : Valuation τ sig (Elt F)) : (StableHlo.held (c : Thread nD τ) bufs W : sProp 𝕄)
    = iprop(pt c main_arg0 (W main_arg0) ∗ pt c main_arg1 (W main_arg1) ∗ pt c main_v2 (W main_v2) ∗ StableHlo.held (c : Thread nD τ) {Proc.devRef .tc main_v1} W) := by
  unfold StableHlo.held
  rw [bigSep_eq_bigSepL_of_eq [Proc.devRef .tc main_arg0, Proc.devRef .tc main_arg1, Proc.devRef .tc main_v2, Proc.devRef .tc main_v1] (by decide) (by decide),
    BI.bigSep_singleton]
  rfl

theorem unscopedSems0_eq (c : Dev nD) : (unscopedSems0 c : sProp 𝕄) = semVal (own c .greetP) 0 := by
  unfold unscopedSems0
  rw [show (Finset.univ.filter fun sm : SemLoc sig => ¬ sm.isScoped .tc) = {Ev.greetP.sem} from by decide, BI.bigSep_singleton]

/-! ## What travels with a device -/

/-- What the launch gives a device for the kernel. -/
def given (c : Dev nD) : sProp 𝕄 := iprop(∃ κ, records (operands m) κ ∗ dealt c ∗ dues c)
/-- The same once the kernel's own semaphores are open. -/
def opened (c : Dev nD) : sProp 𝕄 := iprop(∃ κ, know (operands m) κ ∗ stock c)

theorem opening_sems (c : Dev nD) : iprop(given m c ∗ Pipeline.ownSems0 osem c ∗ levAts L lv) ⊢ (|={Set.univ}=> opened m c : sProp 𝕄) := by
  unfold given opened
  iintro ⟨⟨%κ, #HR, Hg, Hd⟩, Hv, #HL⟩
  imod (open_stock (operands m) κ c) $$ [Hg Hd Hv] with Hs
  · isplitr; · iexact HR
    isplitl [Hg]; · iexact Hg
    isplitl [Hd]; · iexact Hd
    iexact Hv
  imodintro
  iexists κ
  isplitr
  · iapply (records_know (operands m) κ)
    isplitr; · iexact HR
    iexact HL
  iexact Hs

/-- The two scratch buffers, at contents not chosen. -/
def scratch (c : Dev nD) : sProp 𝕄 := iprop(some' c landM ∗ some' c sumM)

theorem whole_iff (c : Dev nD) (b : Ref sig .tc) (X : b.ty.Contents (Elt F)) :
    (owns (c : Thread nD τ) (Memref.whole b) fullShare X : sProp 𝕄) = pt c b X := by
  rw [owns_whole_eq]
  have h₁ : iprop(∃ f : Buf (Elt F) ((c : Thread nD τ).loc b), ⌜f = X⌝ ∗ (((c : Thread nD τ).loc b) ↦{fullShare} f)) ⊢ (pt c b X : sProp 𝕄) := by
    iintro ⟨%f, %hf, H⟩; subst hf; iexact H
  have h₂ : pt c b X ⊢ (iprop(∃ f : Buf (Elt F) ((c : Thread nD τ).loc b), ⌜f = X⌝ ∗ (((c : Thread nD τ).loc b) ↦{fullShare} f)) : sProp 𝕄) := by
    iintro H; iexists X; isplitr; · ipureintro; rfl
    iexact H
  exact BI.equiv_iff.mp ⟨h₁, h₂⟩

theorem scratch_eq (c : Dev nD) : (Pipeline.scopedRest (Ix := Bool) (Name := ℕ) (U := UU) (Lvl := ℕ) (Val := Elt F) spec0 c : sProp 𝕄) = scratch c := by
  rw [scopedRest0_eq]
  unfold scratch some' has
  simp only [whole_iff]
  rfl

/-! ## The proof data of the one region -/

/-- Before the kernel's one point: the opened protocol, scratch memory, the generator. After it: all semaphores at zero again. -/
def dat (c : Dev nD) : Dat τ (Elt F) Bool ℕ UU ℕ cfg0 c where
  A w := V m c (Pipeline.arrRef spec0 w)
  after := fun
    | 0 => fun _ => (operands m).o c
    | 1 => fun _ => (operands m).w c
    | 2 => fun _ => (operands m).out c
    | ⟨_ + 3, h⟩ => absurd h (Nat.not_lt.2 (Nat.le_add_left _ _))
  Φ t := if t.val = 0 then iprop(opened m c ∗ scratch c ∗ ∃ r, prngReg c r)
    else iprop((semVal (own c .greetP) 0 ∗ Pipeline.ownSems0 osem c) ∗ scratch c ∗ ∃ r, prngReg c r)
  q _ := fullShare
  owed t := if t.val = 0 then owed c evs else 0

abbrev adm : (p : Fin 1) → (pcfgs (F := F) p).Adm := fun p => (cfgs p).toPCfg_adm
abbrev pdats : (p : Fin 1) → (c : Dev nD) → Dat τ (Elt F) Bool ℕ UU ℕ (Pipeline.pin (pcfgs (F := F)) adm p) c := fun _ => dat m

theorem owed_first (c : Dev nD) : (dat (F := F) m c).owed t0_0.castSucc = owed c evs := by
  show (if (t0_0.castSucc : Fin (cfg0.N + 1)).val = 0 then owed c evs else 0) = _; exact if_pos rfl
theorem owed_zero (c : Dev nD) : (dat (F := F) m c).owed 0 = owed c evs := by
  show (if ((0 : Fin (cfg0.N + 1)).val = 0) then owed c evs else 0) = _; exact if_pos rfl
theorem owed_last (c : Dev nD) : (dat (F := F) m c).owed (Fin.last _) = 0 := by
  show (if (Fin.last cfg0.N).val = 0 then owed c evs else 0) = 0
  rw [Fin.val_last, if_neg (by rw [show cfg0.N = 1 from N_0]; decide)]

/-- What a core owes, as the pipeline keeps it at a point, and back. -/
theorem owesAt_intro (c : Dev nD) (t : Fin (cfg0.N + 1)) (O : CellTallies nD τ sig Bool) (h0 : (dat m c).owed t = O) :
    iprop(∃ W, owes (c : Thread nD τ) O W) ⊢ ((dat m c).owesAt false t : sProp 𝕄) := by
  unfold Dat.owesAt Pipeline.owesWithin Dat.bound; rw [h0]
  iintro ⟨%W, HO⟩; iexists W; isplitr; · ipureintro; exact fun _ _ => Or.inl trivial
  iexact HO
theorem owesAt_elim (c : Dev nD) (t : Fin (cfg0.N + 1)) (O : CellTallies nD τ sig Bool) (h0 : (dat m c).owed t = O) :
    ((dat m c).owesAt false t : sProp 𝕄) ⊢ iprop(∃ W, owes (c : Thread nD τ) O W) := by
  unfold Dat.owesAt Pipeline.owesWithin; rw [h0]
  iintro ⟨%W, -, HO⟩; iexists W; iexact HO

theorem before_o (c : Dev nD) (d) : (dat m c).before (0 : Fin 3) t0_0 d = (operands m).o c := by
  unfold Dat.before; rw [if_pos (fetch0_0 t0_0)]; rfl
theorem before_w (c : Dev nD) (d) : (dat m c).before (1 : Fin 3) t0_0 d = (operands m).w c := by
  unfold Dat.before; rw [if_pos (fetch0_1 t0_0)]; rfl

theorem runs_device (c : Dev nD) (k : Dev nD → Code F PUnit) (Q : PUnit → sProp 𝕄) : runs c (k c) Q ⊢ runs c (Prog.op .deviceId k) Q := by
  rw [show runs c (Prog.op .deviceId k) Q = runs c (k c) Q from wp_deviceId _ _ _ _]

/-- The kernel at its one point: from the opened protocol to all semaphores at zero. -/
theorem runs_point (c : Dev nD) {Q : PUnit → sProp 𝕄} :
    iprop(opened m c ∗ scratch c ∗ ins (operands m) c ∗ owesL c evs ∗ some' c rM)
      ⊢ iprop((iprop((semVal (own c .greetP) 0 ∗ Pipeline.ownSems0 osem c) ∗ scratch c ∗ ins (operands m) c ∗ owesL c [] ∗ has c rM ((operands m).out c)) -∗ Q ⟨⟩)
        -∗ runs c (Prog.op .deviceId mirror) Q) := by
  unfold opened scratch stock
  iintro ⟨⟨%κ, #Hκ, Hh, Hm, Hkit⟩, ⟨Hl, Hs⟩, Hi, HO, Hr⟩ Hk
  iapply (runs_device c mirror Q)
  iapply (wp_fupd (p := mirror c) (Q := Q))
  iapply (runs_body (X := operands m) (κ := κ) (c := c)) $$ [Hh Hm Hkit Hl Hs Hi HO Hr]
  · isplitr; · iexact Hκ
    isplitl [Hi]; · iexact Hi
    isplitl [HO]; · iexact HO
    unfold before
    isplitl [Hr]; · iexact Hr
    isplitl [Hh]; · iexact Hh
    isplitl [Hm]; · iexact Hm
    isplitl [Hl]; · iexact Hl
    isplitl [Hs]; · iexact Hs
    iexact Hkit
  unfold after
  iintro ⟨Hi, HO, Hr, Hb, Hl, Hs, Ha⟩
  imod (close_stock (operands m) κ c) $$ [Hb Ha] with Hz
  · isplitr; · iexact Hκ
    isplitl [Hb]; · iexact Hb
    iexact Ha
  imodintro
  iapply Hk
  isplitl [Hz]; · iexact Hz
  isplitl [Hl Hs]
  · isplitl [Hl]; · iexact Hl
    iexact Hs
  isplitl [Hi]; · iexact Hi
  isplitl [HO]; · iexact HO
  iexact Hr

set_option maxRecDepth 100000 in
/-- The body obligation of the region. -/
theorem body (c : Dev nD) : BodyObligation (dat (F := F) m c) defs₀ 𝒱₀ false Set.univ := fun t => by
  obtain rfl : t = t0_0 := fin_N0 t
  rw [bigSep_W0, bigSep_W0]
  show iprop((opened m c ∗ scratch c ∗ ∃ r, prngReg c r) ∗ (dat m c).owesAt false t0_0.castSucc
      ∗ (∃ d, has c oM ((dat m c).before (0 : Fin 3) t0_0 d)) ∗ (∃ d, has c wM ((dat m c).before (1 : Fin 3) t0_0 d))
      ∗ (∃ d, has c rM ((dat m c).before (2 : Fin 3) t0_0 d)))
    ⊢ runs c (cc0_body (F := F) oM (Memref.isWhole_whole _) wM (Memref.isWhole_whole _) rM (Memref.isWhole_whole _)
        landM (Memref.isWhole_whole _) sumM (Memref.isWhole_whole _) cc0_scratch2 cc0_scratch3 cc0_scratch4)
      fun _ => iprop(((semVal (own c .greetP) 0 ∗ Pipeline.ownSems0 osem c) ∗ scratch c ∗ ∃ r, prngReg c r) ∗ (dat m c).owesAt false t0_0.succ
        ∗ has c oM ((operands m).o c) ∗ has c wM ((operands m).w c) ∗ has c rM ((operands m).out c))
  rw [body_eq]
  iintro ⟨⟨Hop, Hs, Hp⟩, HO, ⟨%d₀, Ho⟩, ⟨%d₁, Hw⟩, ⟨%d₂, Hr⟩⟩
  rw [before_o, before_w]
  ihave HO := (owesAt_elim m c _ _ (owed_first m c)) $$ HO
  iapply (runs_point m c) $$ [Hop Hs HO Ho Hw Hr]
  · isplitl [Hop]; · iexact Hop
    isplitl [Hs]; · iexact Hs
    isplitl [Ho Hw]
    · unfold ins
      isplitl [Ho]; · iexact Ho
      iexact Hw
    isplitl [HO]; · unfold owesL; iexact HO
    iexists _; iexact Hr
  unfold ins owesL
  iintro ⟨Hz, Hs, ⟨Ho, Hw⟩, HO, Hr⟩
  isplitl [Hz Hs Hp]
  · isplitl [Hz]; · iexact Hz
    isplitl [Hs]; · iexact Hs
    iexact Hp
  isplitl [HO]
  · iapply (owesAt_intro m c t0_0.succ 0 (owed_last m c)); iexact HO
  isplitl [Ho]; · iexact Ho
  isplitl [Hw]; · iexact Hw
  iexact Hr

end Cert.RingProof

end
-- ==== Proof.Run.lean ====
/-
The launch of the program and its run: what every final state holds.
-/
module

public import proofs.«01_k».proof.Proof.Launch

@[expose] public section

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]
local notation "𝕄" => MT nD τ sig Bool (Elt F) ℕ UU ℕ

variable (m : (ℓ : Loc nD τ sig) → Buf (Elt F) ℓ) (ρ : Dev nD → PrngReg)

/-! ## The two segments -/

/-- What rides beside the buffers up to the kernel. -/
def rides (c : Dev nD) : sProp 𝕄 := iprop(given m c ∗ (∃ r, prngReg c r) ∗ ∃ W, owes (c : Thread nD τ) (owed c evs) W)

theorem ops_sub : ∀ op ∈ (hostOps0 : List (HloOp τ sig (Elt F))), op.bufs ⊆ bufs := fun op h => by
  simp only [hostOps0, List.mem_singleton] at h; subst h
  show ({Proc.devRef .tc main_arg0, Proc.devRef .tc main_v1} : Finset (DevRef τ sig)) ⊆ bufs; decide
theorem ops_fresh : ∀ op ∈ (hostOps0 : List (HloOp τ sig (Elt F))), op.fresh = ∅ := List.forall_iff_forall_mem.mp hostOps0_fresh

/-- The host reshape. -/
def host : Pipeline.HostSeg (Name := ℕ) (U := UU) (pcfgs (F := F)) defs₀ 𝒱₀ L lv :=
  Pipeline.HostSeg.ofOps _ _ _ _ _ bufs hostOps0 ops_sub ops_fresh (V₀ m) (rides m)

theorem V₂_v2 (c : Dev nD) : V₂ m c main_v2 = (operands m).out c := Function.update_self ..
theorem V₂_ne (c : Dev nD) (b : DevRef τ sig) (h : b ≠ Proc.devRef .tc main_v2) : V₂ m c b = V₁ m c b := Function.update_of_ne h ..

/-- The result array after the kernel's one point. -/
theorem arr_out (c : Dev nD) : (dat m c).arrAt (2 : Fin 3) cfg0.N = (operands m).out c := by
  refine (dat m c).arrAt_eq_of_after_last (2 : Fin 3) t0_0 (by decide +kernel) _ fun j => ?_
  rfl

theorem hW' (c : Dev nD) : ∀ w : Fin 3, (dat m c).arrAt w cfg0.N = V₂ m c (Proc.devRef .tc (Pipeline.arrRef spec0 w))
  | 0 => ((dat m c).arrAt_in 0 rfl _).trans (V₂_ne m c (Proc.devRef .tc main_v1) (by decide)).symm
  | 1 => ((dat m c).arrAt_in 1 rfl _).trans (V₂_ne m c (Proc.devRef .tc main_arg1) (by decide)).symm
  | 2 => (arr_out m c).trans (V₂_v2 m c).symm
  | ⟨_ + 3, h⟩ => absurd h (Nat.not_lt.2 (Nat.le_add_left _ _))

theorem evs_lvl : ∀ e ∈ evs, 0 < e.lvl := by decide +kernel

theorem cut_owed (c : Dev nD) (t : Fin (cfg0.N + 1)) (g : GSem nD τ sig) (i : Bool) (h : 0 < (dat m c).owed t g i) : i ∈ L g ∧ 0 < lv g i := by
  have e : (dat m c).owed t = if t.val = 0 then owed c evs else 0 := rfl
  rw [e] at h
  split at h
  · obtain ⟨e, he, rfl, rfl⟩ := owed_pos h
    exact ⟨mem_L _ _ _, by show 0 < lvAt e.sem e.ix; rw [lvAt_ev]; exact evs_lvl e he⟩
  · exact absurd h (Nat.lt_irrefl 0)

theorem staging_lvl : ∀ (w : Fin 3) (s : Fin (win0 w).nbuf), lvAt (.dma ((win0 w).sem s)) false ≤ 0 := by decide +kernel

theorem hin (c : Dev nD) : iprop(Pipeline.scopedRest (Pipeline.pin (pcfgs (F := F)) adm 0).spec c ∗ (∃ r, prngReg c r) ∗ StableHlo.held (c.tc : Thread nD τ) ∅ (V₁ m c) ∗ opened m c)
    ⊢ (pdats m 0 c).Φ 0 := by
  rw [show (pdats m 0 c).Φ 0 = iprop(opened m c ∗ scratch c ∗ ∃ r, prngReg c r) from rfl,
    show (Pipeline.scopedRest (Pipeline.pin (pcfgs (F := F)) adm 0).spec c : sProp 𝕄) = scratch c from scratch_eq c]
  iintro ⟨Hs, Hp, -, Ho⟩
  isplitl [Ho]; · iexact Ho
  isplitl [Hs]; · iexact Hs
  iexact Hp

theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) ∅ (V₂ m c)
        ∗ Pipeline.ownSems0 osem c ∗ semVal (own c .greetP) 0) := by
  rw [show (pdats m 0 c).Φ (Fin.last _) = iprop((semVal (own c .greetP) 0 ∗ Pipeline.ownSems0 osem c) ∗ scratch c ∗ ∃ r, prngReg c r) from rfl,
    show (Pipeline.scopedRest (Pipeline.pin (pcfgs (F := F)) adm 0).spec c : sProp 𝕄) = scratch c from scratch_eq c]
  iintro ⟨⟨Hb, Ho⟩, Hs, Hp⟩
  isplitl [Hs]; · iexact Hs
  isplitl [Hp]; · iexact Hp
  isplitr
  · unfold StableHlo.held; rw [BI.bigSep_empty]; iempintro
  isplitl [Ho]; · iexact Ho
  iexact Hb

set_option backward.isDefEq.respectTransparency.types false in
/-- The kernel. -/
def region : Pipeline.RegionSeg (pcfgs (F := F)) adm (pdats m) false defs₀ 𝒱₀ L lv 0 :=
  Pipeline.RegionSeg.ofTalk (pcfgs (F := F)) adm (pdats m) false defs₀ 𝒱₀ L lv 0 osem (by decide +kernel : Pipeline.OwnSemFacts spec0 osem)
    ∅ (bufs \ arrs) (Finset.empty_subset _) launch0.toP rfl (fun c => (body m c).loose)
    (fun _ => 0) (fun c => owed c evs) (fun c => (owed_zero m c).trans (zero_add _).symm) (owed_last m) (fun _ => rfl)
    (fun c w => by unfold Dat.share; split <;> rfl)
    (V₁ m) (V₂ m) (fun c b hb => V₂_ne m c b (by
      rintro rfl
      exact absurd hb (by decide)))
    (given m) (fun c => semVal (own c .greetP) 0) (opened m) (fun c => semVal (own c .greetP) 0) (opening_sems m) (hin m) (hout m)
    (fun c => by iintro H; imodintro; iexact H)
    (fun _ => 0)
    ⟨fun c w s => mem_L _ _ _, fun c w s => staging_lvl w s, fun c t g i h => cut_owed m c t g i h⟩
    (fun _ => iprop(emp))
    (fun _ _ => rfl) (hW' m)

theorem held_split (c : Dev nD) (W : Valuation τ sig (Elt F)) :
    (StableHlo.held (c : Thread nD τ) bufs W : sProp 𝕄) = iprop(StableHlo.held (c : Thread nD τ) arrs W ∗ StableHlo.held (c : Thread nD τ) (bufs \ arrs) W) :=
  StableHlo.held_sub_split (c : Thread nD τ) arrs_sub W

theorem region_pre (c : Dev nD) : iprop(StableHlo.held (c : Thread nD τ) bufs (V₁ m c) ∗ rides m c) ⊢ (region m).pre c := by
  show _ ⊢ iprop(StableHlo.held (c.tc : Thread nD τ) arrs (V₁ m c) ∗ (∃ r, prngReg c r)
    ∗ (StableHlo.held (c.tc : Thread nD τ) (bufs \ arrs) (V₁ m c) ∗ emp) ∗ given m c ∗ ∃ Wd, owes (c : Thread nD τ) (0 + owed c evs) Wd)
  rw [held_split, zero_add]
  unfold rides
  iintro ⟨⟨Ha, Hr⟩, Hg, Hp, HO⟩
  isplitl [Ha]; · iexact Ha
  isplitl [Hp]; · iexact Hp
  isplitl [Hr]
  · isplitl [Hr]; · iexact Hr
    iempintro
  isplitl [Hg]; · iexact Hg
  iexact HO

/-- What a device has at the launch, and at the end. -/
abbrev start (c : Dev nD) : sProp 𝕄 := iprop(StableHlo.held (c : Thread nD τ) bufs (V₀ m c) ∗ rides m c)
abbrev final (c : Dev nD) : sProp 𝕄 := iprop(StableHlo.held (c : Thread nD τ) bufs (V₂ m c) ∗ semVal (own c .greetP) 0)

theorem region_post (c : Dev nD) : (region m).post c
    ⊢ iprop(final m c ∗ ∃ W, owes (c : Thread nD τ) (0 : CellTallies nD τ sig Bool) W) := by
  show iprop(StableHlo.held (c.tc : Thread nD τ) arrs (V₂ m c) ∗ (∃ r, prngReg c r)
    ∗ (StableHlo.held (c.tc : Thread nD τ) (bufs \ arrs) (V₂ m c) ∗ emp) ∗ semVal (own c .greetP) 0 ∗ ∃ Wd, owes (c : Thread nD τ) (0 : CellTallies nD τ sig Bool) Wd) ⊢ _
  unfold final
  rw [held_split]
  iintro ⟨Ha, -, ⟨Hr, -⟩, Hb, HO⟩
  isplitr [HO]
  · isplitl [Ha Hr]
    · isplitl [Ha]; · iexact Ha
      iexact Hr
    iexact Hb
  iexact HO

def segs : List (Pipeline.Seg (pcfgs (F := F)) adm (pdats m) false defs₀ 𝒱₀ L lv) := [.host (host m), .region (region m)]
theorem main_eq (c : Dev nD) : main (F := F) c = Pipeline.Seg.run (segs m) := main_segs adm (pdats m) false 𝒱₀ L lv (host m) (region m) rfl c

/-! ## The launch -/

/-- The ghost state minted at launch: the pipeline's own, and the protocol's. -/
def u₀ : UU :=
  (initOf (Pipeline.cells (Pipeline.pin (pcfgs (F := F)) adm) cellOf_inj) (Pipeline.launchToks (Pipeline.pin (pcfgs (F := F)) adm) cellOf_inj),
    launchOf barCells ownCells allToks)

/-- A resource of which device `0` has all. -/
def parked (Z : sProp 𝕄) (c : Dev nD) : sProp 𝕄 := if c = 0 then Z else iprop(emp)
theorem bigSep_parked (Z : sProp 𝕄) : bigSep Finset.univ (parked Z) = Z := by
  rw [bigSep_univ_at _ 0, bigSep_congr (s := Finset.univ.erase 0) (Ψ := fun _ => (BI.emp : sProp 𝕄))
      fun c hc => by unfold parked; rw [if_neg (Finset.ne_of_mem_erase hc)]; rfl, BI.bigSep_emp_const]
  unfold parked; rw [if_pos rfl]
  exact BI.equiv_iff.mp sep_emp

abbrev minted : Dev nD → sProp 𝕄 := parked (BI.own (ER (launchOf barCells ownCells allToks)))

/-- What of a core's launch holdings is not the protocol's ghost state. -/
def bundle (c : Dev nD) : sProp 𝕄 :=
  iprop(StableHlo.held (c : Thread nD τ) bufs (V₀ m c) ∗ dues c ∗ owes (c : Thread nD τ) (owed c evs) ∅ ∗ ∃ r, prngReg c r)

theorem start_intro (κ : GSem nD τ sig → ℕ) (c : Dev nD) : iprop(records (operands m) κ ∗ (dealt c ∗ bundle m c)) ⊢ start m c := by
  unfold bundle start rides given
  iintro ⟨#HR, Hl, Hh, Hd, HO, Hp⟩
  isplitl [Hh]; · iexact Hh
  isplitl [Hl Hd]
  · iexists κ
    isplitr; · iexact HR
    isplitl [Hl]; · iexact Hl
    iexact Hd
  isplitl [Hp]; · iexact Hp
  iexists ∅; iexact HO

/-- Two resources on every device, as one family of pairs, and back. -/
theorem dealt_apart {A B : Dev nD → sProp 𝕄} : (bigSep Finset.univ fun c => iprop(A c ∗ B c)) ⊢ iprop(bigSep Finset.univ A ∗ bigSep Finset.univ B) :=
  Entails.of_eq (bigSep_sep' _ _ _)
theorem dealt_both {A B : Dev nD → sProp 𝕄} : iprop(bigSep Finset.univ A ∗ bigSep Finset.univ B) ⊢ (bigSep Finset.univ fun c => iprop(A c ∗ B c)) :=
  Entails.of_eq (bigSep_sep' _ _ _).symm

/-- From what the machine starts with to what every device starts with. -/
theorem init :
    iprop((bigSep Finset.univ fun c : Dev nD => iprop(unscopedBufs c (fun b => m ((c : Thread nD τ).loc b)) ∗ unscopedSems0 c
          ∗ owes (c : Thread nD τ) (owed c evs) ∅ ∗ Pipeline.launchCred (fun d => owed d evs) c ∗ prngReg c (ρ c) ∗ minted c)) ∗ levAts L lv)
      ⊢ (|={Set.univ}=> bigSep Finset.univ (start m) : sProp 𝕄) := by
  have hcore (c : Dev nD) : iprop(unscopedBufs c (fun b => m ((c : Thread nD τ).loc b)) ∗ unscopedSems0 c
        ∗ owes (c : Thread nD τ) (owed c evs) ∅ ∗ Pipeline.launchCred (fun d => owed d evs) c ∗ prngReg c (ρ c) ∗ minted c)
      ⊢ (iprop(bundle m c ∗ (semVal (own c .greetP) 0 ∗ minted c)) : sProp 𝕄) := by
    rw [show unscopedBufs c (fun b => m ((c : Thread nD τ).loc b)) = StableHlo.held (c : Thread nD τ) bufs (V₀ m c) from unscopedBufs_held c (V₀ m c),
      unscopedSems0_eq]
    unfold bundle
    iintro ⟨Hh, Hus, HO, Hcr, Hp, HG⟩
    ihave Hc := (launch_dues (F := F) c) $$ Hcr
    isplitl [Hh Hc HO Hp]
    · isplitl [Hh]; · iexact Hh
      isplitl [Hc]; · iexact Hc
      isplitl [HO]; · iexact HO
      iexists (ρ c); iexact Hp
    isplitl [Hus]; · iexact Hus
    iexact HG
  have hv : bigSep Finset.univ (fun c : Dev nD => (semVal (own c .greetP) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (at' c .greetP 0 : sProp 𝕄)) :=
    Entails.of_eq (bigSep_map (s := Finset.univ) barEmb (Φ := fun g : GSem nD τ sig => (atPos ER g 0 ∅ 0 : sProp 𝕄)))
  have hop : bigSep ownCells (fun g => (openTok ER g : sProp 𝕄))
      ⊢ bigSep Finset.univ (fun c : Dev nD => bigSep Finset.univ fun k : Fin 4 × Fin 5 => openTok ER (own c (rep k))) :=
    Entails.of_eq (by rw [bigSep_map, bigSep_univ_prod]; rfl)
  have htok : bigSep allToks (fun x => (dutyTok ER x.1 x.2.1 x.2.2 : sProp 𝕄)) ⊢ bigSep Finset.univ fun c : Dev nD => bigSep Finset.univ fun e : Ev => tok c e :=
    Entails.of_eq (by unfold allToks; rw [bigSep_map, bigSep_univ_prod]; rfl)
  iintro ⟨H, -⟩
  ihave H' := (show (bigSep Finset.univ fun c : Dev nD => iprop(unscopedBufs c (fun b => m ((c : Thread nD τ).loc b)) ∗ unscopedSems0 c
          ∗ owes (c : Thread nD τ) (owed c evs) ∅ ∗ Pipeline.launchCred (fun d => owed d evs) c ∗ prngReg c (ρ c) ∗ minted c))
      ⊢ (bigSep Finset.univ fun c : Dev nD => iprop(bundle m c ∗ (semVal (own c .greetP) 0 ∗ minted c)) : sProp 𝕄) from bigSep_mono fun c _ => hcore c) $$ H
  ihave H2 := dealt_apart $$ H'; icases H2 with ⟨HB, H3⟩
  ihave H4 := dealt_apart $$ H3; icases H4 with ⟨Hv, HG⟩
  ihave Hu := (show bigSep Finset.univ (minted (F := F)) ⊢ BI.own (ER (launchOf barCells ownCells allToks)) from
    Entails.of_eq (bigSep_parked (F := F) _)) $$ HG
  imod (Rounds.fund_launch ER (ringRd (operands m)) cells_disjoint (fun g _ h => h) allToks) $$ [Hv Hu] with ⟨%κ, -, #Hinv, #Hr, Hat, Hopen, Htok⟩
  · isplitl [Hv]
    · iapply hv $$ Hv
    · iexact Hu
  imodintro
  iapply (bigSep_with_persistent (R := records (operands m) κ) (Φ := fun c => iprop(dealt c ∗ bundle m c)) fun c _ => start_intro m κ c)
  isplitr
  · unfold records
    isplitr; · iexact Hinv
    iexact Hr
  iapply dealt_both
  isplitr [HB]
  · unfold dealt
    iapply dealt_both; isplitl [Hat]; · iapply hat $$ Hat
    iapply dealt_both; isplitl [Hopen]; · iapply hop $$ Hopen
    iapply htok $$ Htok
  · iexact HB

theorem unscoped_eq : ∀ sm : SemLoc sig, sm.isScoped .tc = false → sm = Ev.greetP.sem := by decide +kernel

set_option backward.isDefEq.respectTransparency.types false in
/-- THE RUN, over any float values: from any memory with all counters at zero the program ends, on every device with its
    arguments as they were and its result what the ring computes of the operands, and with every counter at zero. -/
theorem run_main : θ_run defs (onTc (τ := τ) (main (F := F))) ⟨m, fun _ => 0, ρ⟩
    (fun r => (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_v2) = (operands m).out c) ∧ r.2.sem = fun _ => 0) :=
  Pipeline.θ_run_regions_kit_sems (pcfgs (F := F)) adm (pdats m) false cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := fun d => owed d evs) (hL := L_of_ne) (G := minted) (u₀ := u₀ (F := F))
    (hu₀ := by
      unfold u₀ minted
      iintro Hu
      ihave H := (ownU_pair _ _) $$ Hu
      icases H with ⟨HP, HX⟩
      imodintro
      isplitl [HP]; · iexact HP
      rw [bigSep_parked]; iexact HX)
    (T₀ := start m) (Tₙ := final m)
    (hch := ⟨fun c => .rfl, fun c => region_pre m c, fun c => region_post m c⟩)
    (hinit := init m ρ)
    (QY := fun c s => (s.mem ((Memref.whole main_arg0).view.loc (c : Thread nD τ)) = V₂ m c main_arg0
        ∧ s.mem ((Memref.whole main_arg1).view.loc (c : Thread nD τ)) = V₂ m c main_arg1
        ∧ s.mem ((Memref.whole main_v2).view.loc (c : Thread nD τ)) = V₂ m c main_v2)
      ∧ s.sem (own c .greetP) = 0)
    (hfin := fun c s' => by
      dsimp only [final]; rw [bufs_eq]
      iintro ⟨⟨⟨Hx, Hw, Hy, -⟩, Hb0⟩, HSI⟩
      icombine HSI Hx gives %hx
      icombine HSI Hw gives %hw
      icombine HSI Hy gives %hy
      icombine HSI Hb0 gives %hb
      imodintro
      isplitr
      · ipureintro
        exact ⟨⟨Buf.eq_of_forall_mem_univ hx, Buf.eq_of_forall_mem_univ hw, Buf.eq_of_forall_mem_univ hy⟩, by simpa using hb⟩
      iexact HSI)
    (hQ := fun s h hs => ⟨fun c => by
        obtain ⟨⟨hx, hw, hy⟩, -⟩ := h c
        rw [V₂_ne m c _ (by decide)] at hx hw
        rw [V₂_v2] at hy
        exact ⟨hx.trans (V_main_arg0 m c), hw.trans (V_main_arg1 m c), hy⟩,
      sem_eq_zero hs fun c sm hsm => by
        obtain rfl := unscoped_eq sm hsm
        exact (h c).2⟩)

end Cert.RingProof

end
-- ==== Proof.Value.lean ====
/- What the kernel leaves, over the extended reals: each device's result is its block of rows of the product of the
   whole operand (relaid as a `4 × 1024 × 2048` array) with the whole weights. The ring gives every device the sum of the
   four devices' products of their blocks of columns with their blocks of weight rows, all taken at the device's own rows;
   a sum over 2048 positions is the sum of its four stretches of 512, in whatever order they are added. -/
module

public import proofs.«01_k».proof.Proof.Run
public import proofs.«01_k».proof.Defs
public import proofs.«01_k».proof.Proof.Gen.ReferenceIdeal
public import Idealize.ShloMosaic.Lib.Pointwise
public import Idealize.ShloMosaic.Lib.Layout

@[expose] public section

noncomputable section

namespace Cert.RingProof

open Cert.KernelIdeal Cert.KernelIdeal.Gen
open Idealize.ShloMosaic Idealize.ShloMosaic.TcCoe

/-! ## The place of a device, and of its rows -/

/-- A device's place on its ring: its coordinate along the second axis of the mesh. -/
def place (c : Dev nD) : Fin 4 := ⟨c.val / 4 % 4, Nat.mod_lt _ (by decide)⟩
/-- One step to the left is one place less. -/
theorem place_prv : ∀ c : Dev nD, place (prv c) = place c + 3 := by decide +kernel
/-- Row `i` of the `p`-th quarter of the rows. -/
def row (p : Fin 4) (i : Fin 256) : Fin 1024 := ⟨256 * p.val + i.val, by omega⟩
/-- Position `k` of the `p`-th quarter of the contracted axis. -/
def pos (p : Fin 4) (k : Fin 512) : Fin 2048 := ⟨512 * p.val + k.val, by omega⟩

/-- The offsets' closed forms: the opening takes the rows of the place on the left, round `s` those one further left. -/
theorem offO_eq : ∀ (c : Dev nD) (q : Fin 4), (offO c q).1 = ![q.val, 256 * (place c + 3).val, 0] := by
  intro c q
  have hp : (place c + 3).val = (c.val / 4 % 4 + 3) % 4 := by show (c.val / 4 % 4 + 3) % 4 = _; rfl
  rw [hp]
  fin_cases q
  · exact k0_off1_eq c
  · exact k0_off2_eq c
  · exact k0_off3_eq c
  · exact k0_off4_eq c
theorem offS_eq : ∀ (c : Dev nD) (s : Fin 3) (q : Fin 4), (offS c s q).1 = ![q.val, 256 * ((![place c + 2, place c + 1, place c] : Fin 3 → Fin 4) s).val, 0] := by
  intro c s q
  have hp : ((![place c + 2, place c + 1, place c] : Fin 3 → Fin 4) s).val = (c.val / 4 % 4 + 6 - s.val) % 4 := by
    fin_cases s
    · show (c.val / 4 % 4 + 2) % 4 = (c.val / 4 % 4 + 6 - 0) % 4; omega
    · show (c.val / 4 % 4 + 1) % 4 = (c.val / 4 % 4 + 6 - 1) % 4; omega
    · show c.val / 4 % 4 = (c.val / 4 % 4 + 6 - 2) % 4; omega
  rw [hp]
  fin_cases q
  · exact k0_off5_eq c s
  · exact k0_off6_eq c s
  · exact k0_off7_eq c s
  · exact k0_off8_eq c s

/-! ## One device's share of a result element -/

section
variable (X : Data Ideal)

/-- The rows loaded at an offset, and the weights loaded, element by element. -/
theorem rows_apply (c : Dev nD) (o : Off) (q p : Fin 4) (h : o.1 = ![q.val, 256 * p.val, 0]) (i : Fin 256) (k : Fin 512) :
    X.rows c o (ix3 0 i k) = X.o c (ix3 q (row p i) k) := by
  unfold Data.rows
  refine congrArg (X.o c) (funext fun a => Fin.ext ?_)
  have e : ∀ a : Fin 3, ((Rect.unit (s := S4x1024x512) o.1 S1x256x512.size o.2).emb (ix3 0 i k) a).val = o.1 a + 1 * (ix3 (0 : Fin 1) i k a).val := fun _ => rfl
  refine (e a).trans ?_
  rw [h]
  fin_cases a
  · show q.val + 1 * 0 = q.val; omega
  · show 256 * p.val + 1 * i.val = 256 * p.val + i.val; omega
  · show 0 + 1 * k.val = k.val; omega
theorem wts_eq (c : Dev nD) : X.wts c = X.w c := by
  funext j
  unfold Data.wts
  refine congrArg (X.w c) (funext fun a => Fin.ext ?_)
  fin_cases a
  · show 0 + 1 * (j 0).val = (j 0).val; omega
  · show 0 + 1 * (j 1).val = (j 1).val; omega

/-- Device `c`'s product at row `i` of quarter `p` of its operand's chunk `q`, column `n`. -/
def share (c : Dev nD) (p q : Fin 4) (i : Fin 256) (n : Fin 2048) : EReal := ∑ k : Fin 512, X.o c (ix3 q (row p i) k) * X.w c (ix2 k n)

/-- The payload of the opening at an index: a product row by column; -/
theorem pay1_apply (v : Vec Ideal S1x256x512 .f32) (w : Vec Ideal S512x2048 .f32) (i : Fin 256) (n : Fin 2048) :
    k0_pay1 v w (ix2 i n) = ∑ k : Fin 512, v (ix3 0 i k) * w (ix2 k n) := by
  pointwise [k0_pay1]
/-- that of a step: the product, and what has landed added to it. -/
theorem pay7_apply (v : Vec Ideal S1x256x512 .f32) (w : Vec Ideal S512x2048 .f32) (l : FVec Ideal S256x2048 .f32) (i : Fin 256) (n : Fin 2048) :
    k0_pay7 v w (lift l) (ix2 i n) = (∑ k : Fin 512, v (ix3 0 i k) * w (ix2 k n)) + l (ix2 i n) := by
  pointwise [k0_pay7, lift]

theorem acc_zero (c : Dev nD) (q : Fin 4) (i : Fin 256) (n : Fin 2048) : X.acc 0 c q (ix2 i n) = share X c (place c + 3) q i n := by
  refine (pay1_apply _ _ i n).trans (Finset.sum_congr rfl fun k _ => ?_)
  rw [rows_apply X c _ q _ (offO_eq c q), wts_eq]
theorem acc_succ (s : Fin 3) (c : Dev nD) (q : Fin 4) (i : Fin 256) (n : Fin 2048) :
    X.acc (s.val + 1) c q (ix2 i n) = share X c ((![place c + 2, place c + 1, place c] : Fin 3 → Fin 4) s) q i n + X.acc s.val (prv c) q (ix2 i n) := by
  have hs : Fin.ofNat 3 s.val = s := Fin.ext (Nat.mod_eq_of_lt s.isLt)
  have e : X.acc (s.val + 1) c q = k0_pay7 (X.rows c (offS c (Fin.ofNat 3 s.val) q)) (X.wts c) (lift (X.acc s.val (prv c) q)) := by rw [Data.acc]
  rw [e, hs, pay7_apply]
  refine congrArg (fun x : EReal => x + X.acc s.val (prv c) q (ix2 i n)) (Finset.sum_congr rfl fun k _ => ?_)
  rw [rows_apply X c _ q _ (offS_eq c s q), wts_eq]

/-- The accumulator at the end: the shares of the device itself, of its left neighbour, and of the next two, all at
    the device's own quarter of the rows. -/
theorem acc_last (c : Dev nD) (q : Fin 4) (i : Fin 256) (n : Fin 2048) :
    X.acc 3 c q (ix2 i n) = share X c (place c) q i n + (share X (prv c) (place c) q i n
      + (share X (prv (prv c)) (place c) q i n + share X (prv (prv (prv c))) (place c) q i n)) := by
  have h2 := acc_succ X 2 c q i n
  have h1 := acc_succ X 1 (prv c) q i n
  have h0 := acc_succ X 0 (prv (prv c)) q i n
  have hz := acc_zero X (prv (prv (prv c))) q i n
  have p1 : place (prv c) + 1 = place c := by rw [place_prv]; generalize place c = p; revert p; decide
  have p2 : place (prv (prv c)) + 2 = place c := by rw [place_prv, place_prv]; generalize place c = p; revert p; decide
  have p3 : place (prv (prv (prv c))) + 3 = place c := by rw [place_prv, place_prv, place_prv]; generalize place c = p; revert p; decide
  simp only [Matrix.cons_val, p1, p2, p3] at h0 h1 h2 hz
  refine h2.trans (congrArg (_ + ·) (h1.trans (congrArg (_ + ·) (h0.trans (congrArg (_ + ·) hz)))))

/-- The result at an index is the accumulator's chunk there. -/
theorem out_apply (c : Dev nD) (q : Fin 4) (i : Fin 256) (n : Fin 2048) : X.out c (ix3 q i n) = X.acc 3 c q (ix2 i n) := by
  have e : X.out c (ix3 q i n) = X.sum c (ix2 ⟨q.val * 256 + i.val, by omega⟩ n) := by
    unfold Data.out
    pointwise [k0_pay22]
  rw [e]
  unfold Data.sum
  have hq : (⟨(ix2 (⟨q.val * 256 + i.val, by omega⟩ : Fin 1024) n 0).val / 256, by have h := (ix2 (⟨q.val * 256 + i.val, by omega⟩ : Fin 1024) n 0).isLt; show (q.val * 256 + i.val) / 256 < 4; omega⟩ : Fin 4) = q := by
    ext; show (q.val * 256 + i.val) / 256 = q.val; omega
  have hi : within (ix2 (⟨q.val * 256 + i.val, by omega⟩ : Fin 1024) n) = ix2 i n := by
    funext a; ext
    fin_cases a
    · show (q.val * 256 + i.val) % 256 = i.val; omega
    · rfl
  exact (congrArg (fun x => X.acc 3 c x (within _)) hq).trans (congrArg (X.acc 3 c q) hi)

end

/-! ## A sum over the whole axis, stretch by stretch -/

/-- A sum over 2048 positions is that of the four stretches. -/
theorem sum_pos (f : Fin 2048 → EReal) : ∑ K : Fin 2048, f K = ∑ p : Fin 4, ∑ k : Fin 512, f (pos p k) := by
  rw [← Equiv.sum_comp (finProdFinEquiv : Fin 4 × Fin 512 ≃ Fin 2048) f, Fintype.sum_prod_type]
  refine Finset.sum_congr rfl fun p _ => Finset.sum_congr rfl fun k _ => congrArg f (Fin.ext ?_)
  show k.val + 512 * p.val = 512 * p.val + k.val
  omega
/-- Four addends, one for each place, taken leftwards from any place, are their sum. -/
theorem sum_leftwards (G : Fin 4 → EReal) (p : Fin 4) : G p + (G (p + 3) + (G (p + 3 + 3) + G (p + 3 + 3 + 3))) = ∑ x : Fin 4, G x := by
  rw [Fin.sum_univ_four]
  fin_cases p
  · show G 0 + (G 3 + (G 2 + G 1)) = _; ac_rfl
  · show G 1 + (G 0 + (G 3 + G 2)) = _; ac_rfl
  · show G 2 + (G 1 + (G 0 + G 3)) = _; ac_rfl
  · show G 3 + (G 2 + (G 1 + G 0)) = _; ac_rfl

/-! ## The operands of a launch -/

section
variable (m : (ℓ : Loc nD τ sig) → Buf (Elt Ideal) ℓ) (c : Dev nD)

/-- The one block of an operand's window is the whole array. -/
theorem read_o (f : Buf (Elt Ideal) ((c : Thread nD τ).loc main_v1)) : (win0_0.blk t0_0).view.read (Elt Ideal) f = f :=
  Memref.read_access_unit_zero (Elt Ideal) main_v1
    (show (fun a => (win0_0.index t0_0) a * main_v1.ty.shape.size a) = fun _ => 0 from
      funext fun a => by fin_cases a <;> decide) (fun a => by fin_cases a <;> decide) f
theorem read_w (f : Buf (Elt Ideal) ((c : Thread nD τ).loc main_arg1)) : (win0_1.blk t0_0).view.read (Elt Ideal) f = f :=
  Memref.read_access_unit_zero (Elt Ideal) main_arg1
    (show (fun a => (win0_1.index t0_0) a * main_arg1.ty.shape.size a) = fun _ => 0 from
      funext fun a => by fin_cases a <;> decide) (fun a => by fin_cases a <;> decide) f
/-- So the launch works on its first argument relaid, and on its second as it is. -/
theorem operands_w : (operands m).w c = m ((c.tc : Thread nD τ).loc main_arg1) := by
  refine Eq.trans ?_ (V_main_arg1 m c)
  show (win0_1.blk t0_0).view.read (Elt Ideal) (V m c main_arg1) = _
  exact read_w c _
theorem V_main_v1 : V m c main_v1 = shapeCast S4x1024x512 (m ((c.tc : Thread nD τ).loc main_arg0)) shapeCasts_S4x1024x8x64_S4x1024x512 := by
  unfold V
  after_results <;> rfl
theorem operands_o : (operands m).o c = shapeCast S4x1024x512 (m ((c.tc : Thread nD τ).loc main_arg0)) shapeCasts_S4x1024x8x64_S4x1024x512 := by
  refine Eq.trans ?_ (V_main_v1 m c)
  show (win0_0.blk t0_0).view.read (Elt Ideal) (V m c main_v1) = _
  exact read_o c _

end

/-! ## The result is the block of the whole product -/

section
variable (O : FVec Ideal Cert.ReferenceIdeal.S4x1024x32x64 .f32) (W : FVec Ideal Cert.ReferenceIdeal.S2048x2048 .f32)

/-- The product of the whole arrays, as the reference computes it; -/
def whole : FVec Ideal Cert.ReferenceIdeal.S4x1024x2048 .f32 :=
  Host.dotGeneral Cert.ReferenceIdeal.dot_S4x1024x2048_S2048x2048_S4x1024x2048_2_0_01_1_n_n none
    (shapeCast _ O Cert.ReferenceIdeal.Gen.shapeCasts_S4x1024x32x64_S4x1024x2048) W
/-- at an index: a sum over the whole contracted axis, 64 of whose positions make a head. -/
theorem whole_apply (q : Fin 4) (r : Fin 1024) (n : Fin 2048) :
    whole O W (ix3 q r n) = ∑ K : Fin 2048, O (ix4 q r ⟨K.val / 64, by omega⟩ ⟨K.val % 64, by omega⟩) * W (ix2 K n) := by
  unfold whole
  pointwise

/-- The block a device has of each array. -/
theorem o_block (c : Dev nD) (q : Fin 4) (r : Fin 1024) (k : Fin 512) :
    shapeCast S4x1024x512 (Layout.blockN ⟨4, ![4, 1024, 8, 64]⟩ ⟨4, ![4, 1024, 32, 64]⟩ (Layout.meshBlock [2, 4, 4] ![[], [], [1], []] c) O) shapeCasts_S4x1024x8x64_S4x1024x512 (ix3 q r k)
      = O (ix4 q r ⟨(pos (place c) k).val / 64, by omega⟩ ⟨(pos (place c) k).val % 64, by omega⟩) := by
  have e : ∀ B : FVec Ideal S4x1024x8x64 .f32, shapeCast S4x1024x512 B shapeCasts_S4x1024x8x64_S4x1024x512 (ix3 q r k) = B (ix4 q r ⟨k.val / 64, by omega⟩ ⟨k.val % 64, by omega⟩) := by
    intro B; pointwise
  refine (e _).trans ((Layout.blockN_apply _ _ _ _).trans (congrArg O (funext fun a => Fin.ext ?_)))
  rw [Layout.TilesN.idx_val]
  have hp : c.val / 4 % 4 = (place c).val := rfl
  fin_cases a
  · show 0 * 4 + q.val = q.val; omega
  · show 0 * 1024 + r.val = r.val; omega
  · show (0 * 4 + c.val / 4 % 4) * 8 + k.val / 64 = (512 * (place c).val + k.val) / 64; omega
  · show 0 * 64 + k.val % 64 = (512 * (place c).val + k.val) % 64; omega
theorem w_block (c : Dev nD) (k : Fin 512) (n : Fin 2048) :
    (Layout.blockN ⟨2, ![512, 2048]⟩ ⟨2, ![2048, 2048]⟩ (Layout.meshBlock [2, 4, 4] ![[1], []] c) W) (ix2 k n) = W (ix2 (pos (place c) k) n) := by
  refine (Layout.blockN_apply _ _ _ _).trans (congrArg W (funext fun a => Fin.ext ?_))
  rw [Layout.TilesN.idx_val]
  have hp : c.val / 4 % 4 = (place c).val := rfl
  fin_cases a
  · show (0 * 4 + c.val / 4 % 4) * 512 + k.val = 512 * (place c).val + k.val; omega
  · show 0 * 2048 + n.val = n.val; omega
theorem out_block (c : Dev nD) (v : FVec Ideal Cert.ReferenceIdeal.S4x1024x2048 .f32) (q : Fin 4) (i : Fin 256) (n : Fin 2048) :
    (Layout.blockN ⟨3, ![4, 256, 2048]⟩ ⟨3, ![4, 1024, 2048]⟩ (Layout.meshBlock [2, 4, 4] ![[], [1], []] c) v) (ix3 q i n) = v (ix3 q (row (place c) i) n) := by
  refine (Layout.blockN_apply _ _ _ _).trans (congrArg v (funext fun a => Fin.ext ?_))
  rw [Layout.TilesN.idx_val]
  have hp : c.val / 4 % 4 = (place c).val := rfl
  fin_cases a
  · show 0 * 4 + q.val = q.val; omega
  · show (0 * 4 + c.val / 4 % 4) * 256 + i.val = 256 * (place c).val + i.val; omega
  · show 0 * 2048 + n.val = n.val; omega

/-- The `p`-th stretch of that sum. -/
def stretch (q : Fin 4) (r : Fin 1024) (n : Fin 2048) (p : Fin 4) : EReal :=
  ∑ k : Fin 512, O (ix4 q r ⟨(pos p k).val / 64, by omega⟩ ⟨(pos p k).val % 64, by omega⟩) * W (ix2 (pos p k) n)

/-- From memories that hold the devices' blocks of `O` and of `W`, device `c`'s result is its block of the product. -/
theorem out_eq (m : (ℓ : Loc nD τ sig) → Buf (Elt Ideal) ℓ)
    (hO : ∀ c : Dev nD, m ((c.tc : Thread nD τ).loc main_arg0) = Layout.blockN ⟨4, ![4, 1024, 8, 64]⟩ ⟨4, ![4, 1024, 32, 64]⟩ (Layout.meshBlock [2, 4, 4] ![[], [], [1], []] c) O)
    (hW : ∀ c : Dev nD, m ((c.tc : Thread nD τ).loc main_arg1) = Layout.blockN ⟨2, ![512, 2048]⟩ ⟨2, ![2048, 2048]⟩ (Layout.meshBlock [2, 4, 4] ![[1], []] c) W)
    (c : Dev nD) :
    (operands m).out c = Layout.blockN ⟨3, ![4, 256, 2048]⟩ ⟨3, ![4, 1024, 2048]⟩ (Layout.meshBlock [2, 4, 4] ![[], [1], []] c) (whole O W) := by
  have hs : ∀ (d : Dev nD) (p q : Fin 4) (i : Fin 256) (n : Fin 2048), share (operands m) d p q i n = stretch O W q (row p i) n (place d) := by
    intro d p q i n
    refine Finset.sum_congr rfl fun k _ => congrArg₂ (fun x y : EReal => x * y) ?_ ?_
    · rw [operands_o, hO]; exact o_block O d q (row p i) k
    · rw [operands_w, hW]; exact w_block W d k n
  refine funext fun j => ?_
  obtain ⟨q, i, n, rfl⟩ : ∃ (q : Fin 4) (i : Fin 256) (n : Fin 2048), j = ix3 q i n := ⟨j 0, j 1, j 2, eq_ix3 j⟩
  refine (out_apply _ c q i n).trans ((acc_last _ c q i n).trans (Eq.trans ?_ (out_block c (whole O W) q i n).symm))
  rw [whole_apply, sum_pos, hs, hs, hs, hs, place_prv (prv (prv c)), place_prv (prv c), place_prv c]
  exact sum_leftwards (stretch O W q (row (place c) i) n) (place c)

end

end Cert.RingProof

end
-- ==== Proof.Same.lean ====
/- The program to be certified and its idealization are one text, so a run of the one is a run of the other. -/
module

public import proofs.«01_k».proof.Defs
public import proofs.«01_k».proof.Proof.Gen.Kernel
public import proofs.«01_k».proof.Proof.Gen.KernelIdeal

@[expose] public section

noncomputable section

namespace Cert.RingProof

open Idealize.ShloMosaic Idealize.SL.Sem

variable {F : FTy → Type} [FloatOps F]

set_option maxRecDepth 100000 in
/-- Both have the same bodies behind their labels, -/
theorem labels_same : Cert.Kernel.defs₀ (F := F) = Cert.KernelIdeal.defs₀ (F := F) := by
  unfold Cert.Kernel.defs₀ Cert.KernelIdeal.defs₀
  refine congrArg Defs.onTc (funext fun l => funext fun x => ?_)
  match l, x with
  | 0, (t, s) => rfl
  | ⟨_ + 1, h⟩, _ => exact absurd h (Nat.not_lt.2 (Nat.le_add_left _ _))
set_option maxRecDepth 100000 in
/-- the same definitions, -/
theorem defs_same : Cert.Kernel.defs (F := F) = Cert.KernelIdeal.defs (F := F) :=
  congrArg (Pipeline.defs (Cert.KernelIdeal.pcfgs (F := F))) labels_same
/-- and the same program on each device. -/
theorem main_same : Cert.Kernel.main (F := F) = Cert.KernelIdeal.main (F := F) := rfl

/-- What every run of the idealization ends in, every run of the program ends in. -/
theorem run_same (s : MemSt Cert.Kernel.nD Cert.Kernel.τ Cert.Kernel.sig (Elt F)) (Q : _ → Prop)
    (h : θ_run (Cert.KernelIdeal.defs (F := F)) (onTc (τ := Cert.KernelIdeal.τ) (Cert.KernelIdeal.main (F := F))) s Q) :
    θ_run (Cert.Kernel.defs (F := F)) (onTc (τ := Cert.Kernel.τ) (Cert.Kernel.main (F := F))) s Q := by
  have e : θ_run (Cert.Kernel.defs (F := F)) (onTc (τ := Cert.Kernel.τ) (Cert.Kernel.main (F := F))) s
      = θ_run (Cert.KernelIdeal.defs (F := F)) (onTc (τ := Cert.KernelIdeal.τ) (Cert.KernelIdeal.main (F := F))) s :=
    congrArg (fun d => θ_run d (onTc (τ := Cert.KernelIdeal.τ) (Cert.KernelIdeal.main (F := F))) s) defs_same
  exact (congrArg (fun t => t Q) e).mpr h

end Cert.RingProof

end
-- ==== Proof.lean ====
/- The certificate: the kernel's run (Proof/Run.lean) over the machine's floats and over the extended reals, the value it
   leaves (Proof/Value.lean) and the reference's run, put together as the five claims. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Value
public import proofs.«01_k».proof.Proof.Same
public import Idealize.ShloMosaic.Adequacy
public import Idealize.ShloMosaic.Init

@[expose] public section

noncomputable section

namespace Cert.Proof

open Idealize.ShloMosaic Idealize.SL.Sem Cert.Kernel

/-- The kernel, over any float values, runs on the whole mesh, leaves its arguments unchanged and every counter at zero.
    The text to be certified and the one read over the extended reals are the same. -/
theorem kernel_quiet : quiescent_Kernel := fun m g _ =>
  Cert.RingProof.run_same _ _ ((θ_run Cert.KernelIdeal.defs _ _).mono (fun _ h => ⟨fun c => ⟨(h.1 c).1, (h.1 c).2.1⟩, h.2⟩)
    (Cert.RingProof.run_main (F := Bits) m g))
theorem kernelIdeal_quiet : quiescent_KernelIdeal := fun m g _ =>
  (θ_run Cert.KernelIdeal.defs _ _).mono (fun _ h => ⟨fun c => ⟨(h.1 c).1, (h.1 c).2.1⟩, h.2⟩) (Cert.RingProof.run_main (F := Ideal) m g)
/-- The reference leaves its arguments unchanged; it has no semaphores. -/
theorem reference_quiet : quiescent_ReferenceIdeal := fun m g _ =>
  (θ_run Cert.ReferenceIdeal.defs _ _).mono (fun _ h => ⟨fun c => (h c).2, sem_eq_zero_of_no_sems (by decide) _⟩) (Cert.ReferenceIdeal.Value.run m g)
/-- Each device's result is its block of rows of the reference's. -/
theorem result_block : algebraic_KernelIdeal_ReferenceIdeal := fun m g m' g' _ hm =>
  ⟨Cert.RingProof.whole _ _,
    (θ_run Cert.KernelIdeal.defs _ _).mono
      (fun _ h c => ⟨(h.1 c).2.2.trans (Cert.RingProof.out_eq _ _ m (fun c => (hm c).1) (fun c => (hm c).2) c), (h.1 c).1, (h.1 c).2.1⟩)
      (Cert.RingProof.run_main (F := Ideal) m g),
    (θ_run Cert.ReferenceIdeal.defs _ _).mono (fun _ h => h 0) (Cert.ReferenceIdeal.Value.run m' g')⟩

theorem claim : Cert.Claim := ⟨Cert.Kernel.Gen.facts, Cert.KernelIdeal.Gen.facts, Cert.ReferenceIdeal.Gen.facts,
  kernel_quiet, kernelIdeal_quiet, reference_quiet, trivial, result_block⟩

end Cert.Proof

end
